-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 2048, 16, 128]⟩ (Layout.meshBlock [2, 2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 2048, 16, 128]⟩ (Layout.meshBlock [2, 2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S8x8x16x128 : Shape := ⟨4, ![8, 8, 16, 128]⟩
abbrev S8x1024x16x128 : Shape := ⟨4, ![8, 1024, 16, 128]⟩
abbrev S8x1032x16x128 : Shape := ⟨4, ![8, 1032, 16, 128]⟩
abbrev S_ : Shape := ⟨0, ![]⟩

class Facts : Prop where
  concatenates_S8x8x16x128_S8x1024x16x128_S8x1032x16x128_d1 : Shape.Concatenates [S8x8x16x128, S8x1024x16x128] S8x1032x16x128 1
  bcast_S_S8x1032x16x128 : S_.BroadcastsInDim S8x1032x16x128 (![] : Fin 0 → Fin S8x1032x16x128.rank)

variable [Facts]

def fn {F : FTy → Type} [FloatOps F] (main_arg0 : FVec F S8x8x16x128 .f32) (main_arg1 : FVec F S8x1024x16x128 .f32) (main_arg2 : FVec F S8x1024x16x128 .f32) : IVec S8x1032x16x128 1 :=
  let main_v0 : FVec F S8x1032x16x128 .f32 := (fun a b => concatenate S8x1032x16x128 1 [⟨S8x8x16x128, a⟩, ⟨S8x1024x16x128, b⟩] concatenates_S8x8x16x128_S8x1024x16x128_S8x1032x16x128_d1) main_arg0 main_arg1
  let main_v1 : FVec F S8x1032x16x128 .f32 := Host.absf main_v0
  let main_cst : FVec F S_ .f32 := constant S_ .f32 0x7F800000#32
  let main_v2 : FVec F S8x1032x16x128 .f32 := broadcastInDim S8x1032x16x128 ![] bcast_S_S8x1032x16x128 main_cst
  let main_v3 : IVec S8x1032x16x128 1 := cmpf .olt main_v1 main_v2
  main_v3
-- ==== Pre_finite_ReferenceIdeal.lean ====
abbrev S8x8x16x128 : Shape := ⟨4, ![8, 8, 16, 128]⟩
abbrev S8x2048x16x128 : Shape := ⟨4, ![8, 2048, 16, 128]⟩
abbrev S8x2056x16x128 : Shape := ⟨4, ![8, 2056, 16, 128]⟩
abbrev S_ : Shape := ⟨0, ![]⟩

class Facts : Prop where
  concatenates_S8x8x16x128_S8x2048x16x128_S8x2056x16x128_d1 : Shape.Concatenates [S8x8x16x128, S8x2048x16x128] S8x2056x16x128 1
  bcast_S_S8x2056x16x128 : S_.BroadcastsInDim S8x2056x16x128 (![] : Fin 0 → Fin S8x2056x16x128.rank)

variable [Facts]

def fn {F : FTy → Type} [FloatOps F] (main_arg0 : FVec F S8x8x16x128 .f32) (main_arg1 : FVec F S8x2048x16x128 .f32) (main_arg2 : FVec F S8x2048x16x128 .f32) : IVec S8x2056x16x128 1 :=
  let main_v0 : FVec F S8x2056x16x128 .f32 := (fun a b => concatenate S8x2056x16x128 1 [⟨S8x8x16x128, a⟩, ⟨S8x2048x16x128, b⟩] concatenates_S8x8x16x128_S8x2048x16x128_S8x2056x16x128_d1) main_arg0 main_arg1
  let main_v1 : FVec F S8x2056x16x128 .f32 := Host.absf main_v0
  let main_cst : FVec F S_ .f32 := constant S_ .f32 0x7F800000#32
  let main_v2 : FVec F S8x2056x16x128 .f32 := broadcastInDim S8x2056x16x128 ![] bcast_S_S8x2056x16x128 main_cst
  let main_v3 : IVec S8x2056x16x128 1 := cmpf .olt main_v1 main_v2
  main_v3
-- ==== Kernel.lean ====
abbrev S8x8x16x128 : Shape := ⟨4, ![8, 8, 16, 128]⟩
abbrev S8x1024x16x128 : Shape := ⟨4, ![8, 1024, 16, 128]⟩
abbrev S2x16x1024x128 : Shape := ⟨4, ![2, 16, 1024, 128]⟩
abbrev S2x16x8x128 : Shape := ⟨4, ![2, 16, 8, 128]⟩
abbrev S2x16x8 : Shape := ⟨3, ![2, 16, 8]⟩
abbrev S2x8x16x128 : Shape := ⟨4, ![2, 8, 16, 128]⟩
abbrev S3x2x8x16x128 : Shape := ⟨5, ![3, 2, 8, 16, 128]⟩
abbrev S2x2x16 : Shape := ⟨3, ![2, 2, 16]⟩
abbrev S4x2 : Shape := ⟨2, ![4, 2]⟩
abbrev S3x4 : Shape := ⟨2, ![3, 4]⟩
abbrev S1x1x1 : Shape := ⟨3, ![1, 1, 1]⟩
abbrev S_ : Shape := ⟨0, ![]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S1x8x8x128 : Shape := ⟨4, ![1, 8, 8, 128]⟩
abbrev S8x8x128 : Shape := ⟨3, ![8, 8, 128]⟩
abbrev S1x8x1024x128 : Shape := ⟨4, ![1, 8, 1024, 128]⟩
abbrev S8x1024x128 : Shape := ⟨3, ![8, 1024, 128]⟩
abbrev S8x8x1024 : Shape := ⟨3, ![8, 8, 1024]⟩
abbrev S8x8 : Shape := ⟨2, ![8, 8]⟩
abbrev S1x8x8 : Shape := ⟨3, ![1, 8, 8]⟩
abbrev S1x1 : Shape := ⟨2, ![1, 1]⟩
abbrev S8x8x1 : Shape := ⟨3, ![8, 8, 1]⟩
abbrev S1x1x8x8x128 : Shape := ⟨5, ![1, 1, 8, 8, 128]⟩

abbrev nBuf : Space → Nat
  | .hbm => 4
  | .vmem => 12
  | .smem => 0
  | _ => 0

abbrev bufTy : (tb : Table) → Fin (tcTables nBuf tb) → BufTy
  | .hbm, ⟨0, _⟩ => ⟨S8x8x16x128, .f32⟩
  | .hbm, ⟨1, _⟩ => ⟨S8x1024x16x128, .f32⟩
  | .hbm, ⟨2, _⟩ => ⟨S8x1024x16x128, .f32⟩
  | .hbm, ⟨3, _⟩ => ⟨S8x8x16x128, .f32⟩
  | .local _ .vmem, ⟨0, _⟩ => ⟨S8x8x16x128, .f32⟩
  | .local _ .vmem, ⟨1, _⟩ => ⟨S8x8x16x128, .f32⟩
  | .local _ .vmem, ⟨2, _⟩ => ⟨S2x16x1024x128, .f32⟩
  | .local _ .vmem, ⟨3, _⟩ => ⟨S2x16x1024x128, .f32⟩
  | .local _ .vmem, ⟨4, _⟩ => ⟨S2x16x8x128, .f32⟩
  | .local _ .vmem, ⟨5, _⟩ => ⟨S2x16x8, .f32⟩
  | .local _ .vmem, ⟨6, _⟩ => ⟨S2x16x8x128, .bf16⟩
  | .local _ .vmem, ⟨7, _⟩ => ⟨S2x16x8x128, .bf16⟩
  | .local _ .vmem, ⟨8, _⟩ => ⟨S2x16x8, .f32⟩
  | .local _ .vmem, ⟨9, _⟩ => ⟨S2x16x8, .f32⟩
  | .local _ .vmem, ⟨10, _⟩ => ⟨S2x8x16x128, .bf16⟩
  | .local _ .vmem, ⟨11, _⟩ => ⟨S3x2x8x16x128, .bf16⟩
  | _, _ => ⟨S8x8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  (ofTc nBuf bufTy 1 106 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v12 : BitVec 32 := Scalar.addi v11 c0_i32
  let c0_i32_14 : BitVec 32 := 0#32
  let c0_i32_6 : BitVec 32 := 0#32
  let c0_i32_15 : BitVec 32 := 0#32
  ![v12.toNat, 0, 0, 0]
def k0_off2 (d0 : Dev nD) (c0_i32_26 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v26 : BitVec 32 := Scalar.addi v11 c0_i32_26
  let c0_i32_36 : BitVec 32 := 0#32
  let c1_i32_28 : BitVec 32 := 1#32
  let c0_i32_37 : BitVec 32 := 0#32
  ![v26.toNat, 0, 1, 0]
def k0_off3 (d0 : Dev nD) (c0_i32_48 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v40 : BitVec 32 := Scalar.addi v11 c0_i32_48
  let c0_i32_58 : BitVec 32 := 0#32
  let c2_i32_50 : BitVec 32 := 2#32
  let c0_i32_59 : BitVec 32 := 0#32
  ![v40.toNat, 0, 2, 0]
def k0_off4 (d0 : Dev nD) (c0_i32_70 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v54 : BitVec 32 := Scalar.addi v11 c0_i32_70
  let c0_i32_79 : BitVec 32 := 0#32
  let c3_i32 : BitVec 32 := 3#32
  let c0_i32_80 : BitVec 32 := 0#32
  ![v54.toNat, 0, 3, 0]
def k0_off5 (d0 : Dev nD) (c0_i32_91 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v68 : BitVec 32 := Scalar.addi v11 c0_i32_91
  let c0_i32_101 : BitVec 32 := 0#32
  let c4_i32_93 : BitVec 32 := 4#32
  let c0_i32_102 : BitVec 32 := 0#32
  ![v68.toNat, 0, 4, 0]
def k0_off6 (d0 : Dev nD) (c0_i32_113 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v82 : BitVec 32 := Scalar.addi v11 c0_i32_113
  let c0_i32_122 : BitVec 32 := 0#32
  let c5_i32 : BitVec 32 := 5#32
  let c0_i32_123 : BitVec 32 := 0#32
  ![v82.toNat, 0, 5, 0]
def k0_off7 (d0 : Dev nD) (c0_i32_134 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v96 : BitVec 32 := Scalar.addi v11 c0_i32_134
  let c0_i32_143 : BitVec 32 := 0#32
  let c6_i32 : BitVec 32 := 6#32
  let c0_i32_144 : BitVec 32 := 0#32
  ![v96.toNat, 0, 6, 0]
def k0_off8 (d0 : Dev nD) (c0_i32_155 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v110 : BitVec 32 := Scalar.addi v11 c0_i32_155
  let c0_i32_164 : BitVec 32 := 0#32
  let c7_i32 : BitVec 32 := 7#32
  let c0_i32_165 : BitVec 32 := 0#32
  ![v110.toNat, 0, 7, 0]
def k0_off9 (d0 : Dev nD) (c0_i32_176 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v124 : BitVec 32 := Scalar.addi v11 c0_i32_176
  let c0_i32_185 : BitVec 32 := 0#32
  let c8_i32 : BitVec 32 := 8#32
  let c0_i32_186 : BitVec 32 := 0#32
  ![v124.toNat, 0, 8, 0]
def k0_off10 (d0 : Dev nD) (c0_i32_197 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v138 : BitVec 32 := Scalar.addi v11 c0_i32_197
  let c0_i32_206 : BitVec 32 := 0#32
  let c9_i32 : BitVec 32 := 9#32
  let c0_i32_207 : BitVec 32 := 0#32
  ![v138.toNat, 0, 9, 0]
def k0_off11 (d0 : Dev nD) (c0_i32_218 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v152 : BitVec 32 := Scalar.addi v11 c0_i32_218
  let c0_i32_227 : BitVec 32 := 0#32
  let c10_i32 : BitVec 32 := 10#32
  let c0_i32_228 : BitVec 32 := 0#32
  ![v152.toNat, 0, 10, 0]
def k0_off12 (d0 : Dev nD) (c0_i32_239 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v166 : BitVec 32 := Scalar.addi v11 c0_i32_239
  let c0_i32_248 : BitVec 32 := 0#32
  let c11_i32 : BitVec 32 := 11#32
  let c0_i32_249 : BitVec 32 := 0#32
  ![v166.toNat, 0, 11, 0]
def k0_off13 (d0 : Dev nD) (c0_i32_260 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v180 : BitVec 32 := Scalar.addi v11 c0_i32_260
  let c0_i32_269 : BitVec 32 := 0#32
  let c12_i32 : BitVec 32 := 12#32
  let c0_i32_270 : BitVec 32 := 0#32
  ![v180.toNat, 0, 12, 0]
def k0_off14 (d0 : Dev nD) (c0_i32_281 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v194 : BitVec 32 := Scalar.addi v11 c0_i32_281
  let c0_i32_290 : BitVec 32 := 0#32
  let c13_i32 : BitVec 32 := 13#32
  let c0_i32_291 : BitVec 32 := 0#32
  ![v194.toNat, 0, 13, 0]
def k0_off15 (d0 : Dev nD) (c0_i32_302 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v208 : BitVec 32 := Scalar.addi v11 c0_i32_302
  let c0_i32_311 : BitVec 32 := 0#32
  let c14_i32 : BitVec 32 := 14#32
  let c0_i32_312 : BitVec 32 := 0#32
  ![v208.toNat, 0, 14, 0]
def k0_off16 (d0 : Dev nD) (c0_i32_323 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v222 : BitVec 32 := Scalar.addi v11 c0_i32_323
  let c0_i32_332 : BitVec 32 := 0#32
  let c15_i32 : BitVec 32 := 15#32
  let c0_i32_333 : BitVec 32 := 0#32
  ![v222.toNat, 0, 15, 0]
def k0_dev1 (d0 : Dev nD) : Nat :=
  let c0_i32_703 : BitVec 32 := 0#32
  let c1_i32_696 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v460 : BitVec 32 := Scalar.subi c1_i32_696 v2
  let c4_i32_702 : BitVec 32 := 4#32
  let v466 : BitVec 32 := Scalar.muli v460 c4_i32_702
  let v467 : BitVec 32 := Scalar.addi c0_i32_703 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_704 : BitVec 32 := 2#32
  let v468 : BitVec 32 := Scalar.muli v5 c2_i32_704
  let v469 : BitVec 32 := Scalar.addi v467 v468
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_705 : BitVec 32 := 1#32
  let v470 : BitVec 32 := Scalar.muli v8 c1_i32_705
  let v471 : BitVec 32 := Scalar.addi v469 v470
  v471.toNat
def k0_dev2 (d0 : Dev nD) : Nat :=
  let c0_i32_708 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_707 : BitVec 32 := 4#32
  let v472 : BitVec 32 := Scalar.muli v2 c4_i32_707
  let v473 : BitVec 32 := Scalar.addi c0_i32_708 v472
  let c1_i32_697 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v461 : BitVec 32 := Scalar.subi c1_i32_697 v5
  let c2_i32_709 : BitVec 32 := 2#32
  let v474 : BitVec 32 := Scalar.muli v461 c2_i32_709
  let v475 : BitVec 32 := Scalar.addi v473 v474
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_710 : BitVec 32 := 1#32
  let v476 : BitVec 32 := Scalar.muli v8 c1_i32_710
  let v477 : BitVec 32 := Scalar.addi v475 v476
  v477.toNat
def k0_dev3 (d0 : Dev nD) : Nat :=
  let c0_i32_713 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_712 : BitVec 32 := 4#32
  let v478 : BitVec 32 := Scalar.muli v2 c4_i32_712
  let v479 : BitVec 32 := Scalar.addi c0_i32_713 v478
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_714 : BitVec 32 := 2#32
  let v480 : BitVec 32 := Scalar.muli v5 c2_i32_714
  let v481 : BitVec 32 := Scalar.addi v479 v480
  let c1_i32_698 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v462 : BitVec 32 := Scalar.subi c1_i32_698 v8
  let c1_i32_715 : BitVec 32 := 1#32
  let v482 : BitVec 32 := Scalar.muli v462 c1_i32_715
  let v483 : BitVec 32 := Scalar.addi v481 v482
  v483.toNat
def k0_dev4 (d0 : Dev nD) : Nat :=
  let c0_i32_718 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_717 : BitVec 32 := 4#32
  let v484 : BitVec 32 := Scalar.muli v2 c4_i32_717
  let v485 : BitVec 32 := Scalar.addi c0_i32_718 v484
  let c1_i32_699 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v463 : BitVec 32 := Scalar.subi c1_i32_699 v5
  let c2_i32_719 : BitVec 32 := 2#32
  let v486 : BitVec 32 := Scalar.muli v463 c2_i32_719
  let v487 : BitVec 32 := Scalar.addi v485 v486
  let c1_i32_700 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v464 : BitVec 32 := Scalar.subi c1_i32_700 v8
  let c1_i32_720 : BitVec 32 := 1#32
  let v488 : BitVec 32 := Scalar.muli v464 c1_i32_720
  let v489 : BitVec 32 := Scalar.addi v487 v488
  v489.toNat
def k0_off17 (d0 : Dev nD) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v490 : Index := Scalar.indexCast v11
  let c0 : Index := 0#32
  let c0_722 : Index := 0#32
  let c0_723 : Index := 0#32
  ![v490.toNat, 0, 0, 0]
def k0_dev5 (d0 : Dev nD) : Nat :=
  let c0_i32_916 : BitVec 32 := 0#32
  let c1_i32_696 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v460 : BitVec 32 := Scalar.subi c1_i32_696 v2
  let c4_i32_915 : BitVec 32 := 4#32
  let v619 : BitVec 32 := Scalar.muli v460 c4_i32_915
  let v620 : BitVec 32 := Scalar.addi c0_i32_916 v619
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_917 : BitVec 32 := 2#32
  let v621 : BitVec 32 := Scalar.muli v5 c2_i32_917
  let v622 : BitVec 32 := Scalar.addi v620 v621
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_918 : BitVec 32 := 1#32
  let v623 : BitVec 32 := Scalar.muli v8 c1_i32_918
  let v624 : BitVec 32 := Scalar.addi v622 v623
  v624.toNat
def k0_dev6 (d0 : Dev nD) : Nat :=
  let c0_i32_932 : BitVec 32 := 0#32
  let c1_i32_696 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v460 : BitVec 32 := Scalar.subi c1_i32_696 v2
  let c4_i32_931 : BitVec 32 := 4#32
  let v633 : BitVec 32 := Scalar.muli v460 c4_i32_931
  let v634 : BitVec 32 := Scalar.addi c0_i32_932 v633
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_933 : BitVec 32 := 2#32
  let v635 : BitVec 32 := Scalar.muli v5 c2_i32_933
  let v636 : BitVec 32 := Scalar.addi v634 v635
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_934 : BitVec 32 := 1#32
  let v637 : BitVec 32 := Scalar.muli v8 c1_i32_934
  let v638 : BitVec 32 := Scalar.addi v636 v637
  v638.toNat
def k0_dev7 (d0 : Dev nD) : Nat :=
  let c0_i32_1131 : BitVec 32 := 0#32
  let c1_i32_696 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v460 : BitVec 32 := Scalar.subi c1_i32_696 v2
  let c4_i32_1130 : BitVec 32 := 4#32
  let v772 : BitVec 32 := Scalar.muli v460 c4_i32_1130
  let v773 : BitVec 32 := Scalar.addi c0_i32_1131 v772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1132 : BitVec 32 := 2#32
  let v774 : BitVec 32 := Scalar.muli v5 c2_i32_1132
  let v775 : BitVec 32 := Scalar.addi v773 v774
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1133 : BitVec 32 := 1#32
  let v776 : BitVec 32 := Scalar.muli v8 c1_i32_1133
  let v777 : BitVec 32 := Scalar.addi v775 v776
  v777.toNat
def k0_dev8 (d0 : Dev nD) : Nat :=
  let c0_i32_1147 : BitVec 32 := 0#32
  let c1_i32_696 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v460 : BitVec 32 := Scalar.subi c1_i32_696 v2
  let c4_i32_1146 : BitVec 32 := 4#32
  let v786 : BitVec 32 := Scalar.muli v460 c4_i32_1146
  let v787 : BitVec 32 := Scalar.addi c0_i32_1147 v786
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1148 : BitVec 32 := 2#32
  let v788 : BitVec 32 := Scalar.muli v5 c2_i32_1148
  let v789 : BitVec 32 := Scalar.addi v787 v788
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1149 : BitVec 32 := 1#32
  let v790 : BitVec 32 := Scalar.muli v8 c1_i32_1149
  let v791 : BitVec 32 := Scalar.addi v789 v790
  v791.toNat
def k0_dev9 (d0 : Dev nD) : Nat :=
  let c0_i32_1346 : BitVec 32 := 0#32
  let c1_i32_696 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v460 : BitVec 32 := Scalar.subi c1_i32_696 v2
  let c4_i32_1345 : BitVec 32 := 4#32
  let v925 : BitVec 32 := Scalar.muli v460 c4_i32_1345
  let v926 : BitVec 32 := Scalar.addi c0_i32_1346 v925
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1347 : BitVec 32 := 2#32
  let v927 : BitVec 32 := Scalar.muli v5 c2_i32_1347
  let v928 : BitVec 32 := Scalar.addi v926 v927
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1348 : BitVec 32 := 1#32
  let v929 : BitVec 32 := Scalar.muli v8 c1_i32_1348
  let v930 : BitVec 32 := Scalar.addi v928 v929
  v930.toNat
def k0_dev10 (d0 : Dev nD) : Nat :=
  let c0_i32_1362 : BitVec 32 := 0#32
  let c1_i32_696 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v460 : BitVec 32 := Scalar.subi c1_i32_696 v2
  let c4_i32_1361 : BitVec 32 := 4#32
  let v939 : BitVec 32 := Scalar.muli v460 c4_i32_1361
  let v940 : BitVec 32 := Scalar.addi c0_i32_1362 v939
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1363 : BitVec 32 := 2#32
  let v941 : BitVec 32 := Scalar.muli v5 c2_i32_1363
  let v942 : BitVec 32 := Scalar.addi v940 v941
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1364 : BitVec 32 := 1#32
  let v943 : BitVec 32 := Scalar.muli v8 c1_i32_1364
  let v944 : BitVec 32 := Scalar.addi v942 v943
  v944.toNat
def k0_dev11 (d0 : Dev nD) : Nat :=
  let c0_i32_1562 : BitVec 32 := 0#32
  let c1_i32_696 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v460 : BitVec 32 := Scalar.subi c1_i32_696 v2
  let c4_i32_1561 : BitVec 32 := 4#32
  let v1078 : BitVec 32 := Scalar.muli v460 c4_i32_1561
  let v1079 : BitVec 32 := Scalar.addi c0_i32_1562 v1078
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1563 : BitVec 32 := 2#32
  let v1080 : BitVec 32 := Scalar.muli v5 c2_i32_1563
  let v1081 : BitVec 32 := Scalar.addi v1079 v1080
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1564 : BitVec 32 := 1#32
  let v1082 : BitVec 32 := Scalar.muli v8 c1_i32_1564
  let v1083 : BitVec 32 := Scalar.addi v1081 v1082
  v1083.toNat
def k0_dev12 (d0 : Dev nD) : Nat :=
  let c0_i32_1578 : BitVec 32 := 0#32
  let c1_i32_696 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v460 : BitVec 32 := Scalar.subi c1_i32_696 v2
  let c4_i32_1577 : BitVec 32 := 4#32
  let v1092 : BitVec 32 := Scalar.muli v460 c4_i32_1577
  let v1093 : BitVec 32 := Scalar.addi c0_i32_1578 v1092
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1579 : BitVec 32 := 2#32
  let v1094 : BitVec 32 := Scalar.muli v5 c2_i32_1579
  let v1095 : BitVec 32 := Scalar.addi v1093 v1094
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1580 : BitVec 32 := 1#32
  let v1096 : BitVec 32 := Scalar.muli v8 c1_i32_1580
  let v1097 : BitVec 32 := Scalar.addi v1095 v1096
  v1097.toNat
def k0_off18 (d0 : Dev nD) (c0_i32_1629 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v1145 : BitVec 32 := Scalar.addi v11 c0_i32_1629
  let v1146 : Index := Scalar.indexCast v1145
  let c0_1630 : Index := 0#32
  let c0_1631 : Index := 0#32
  let c0_1632 : Index := 0#32
  ![v1146.toNat, 0, 0, 0]
def k0_dev13 (d0 : Dev nD) : Nat :=
  let c0_i32_1645 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1644 : BitVec 32 := 4#32
  let v1154 : BitVec 32 := Scalar.muli v2 c4_i32_1644
  let v1155 : BitVec 32 := Scalar.addi c0_i32_1645 v1154
  let c1_i32_697 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v461 : BitVec 32 := Scalar.subi c1_i32_697 v5
  let c2_i32_1646 : BitVec 32 := 2#32
  let v1156 : BitVec 32 := Scalar.muli v461 c2_i32_1646
  let v1157 : BitVec 32 := Scalar.addi v1155 v1156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1647 : BitVec 32 := 1#32
  let v1158 : BitVec 32 := Scalar.muli v8 c1_i32_1647
  let v1159 : BitVec 32 := Scalar.addi v1157 v1158
  v1159.toNat
def k0_dev14 (d0 : Dev nD) : Nat :=
  let c0_i32_1662 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1661 : BitVec 32 := 4#32
  let v1168 : BitVec 32 := Scalar.muli v2 c4_i32_1661
  let v1169 : BitVec 32 := Scalar.addi c0_i32_1662 v1168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1663 : BitVec 32 := 2#32
  let v1170 : BitVec 32 := Scalar.muli v5 c2_i32_1663
  let v1171 : BitVec 32 := Scalar.addi v1169 v1170
  let c1_i32_698 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v462 : BitVec 32 := Scalar.subi c1_i32_698 v8
  let c1_i32_1664 : BitVec 32 := 1#32
  let v1172 : BitVec 32 := Scalar.muli v462 c1_i32_1664
  let v1173 : BitVec 32 := Scalar.addi v1171 v1172
  v1173.toNat
def k0_dev15 (d0 : Dev nD) : Nat :=
  let c0_i32_1679 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1678 : BitVec 32 := 4#32
  let v1182 : BitVec 32 := Scalar.muli v2 c4_i32_1678
  let v1183 : BitVec 32 := Scalar.addi c0_i32_1679 v1182
  let c1_i32_699 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v463 : BitVec 32 := Scalar.subi c1_i32_699 v5
  let c2_i32_1680 : BitVec 32 := 2#32
  let v1184 : BitVec 32 := Scalar.muli v463 c2_i32_1680
  let v1185 : BitVec 32 := Scalar.addi v1183 v1184
  let c1_i32_700 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v464 : BitVec 32 := Scalar.subi c1_i32_700 v8
  let c1_i32_1681 : BitVec 32 := 1#32
  let v1186 : BitVec 32 := Scalar.muli v464 c1_i32_1681
  let v1187 : BitVec 32 := Scalar.addi v1185 v1186
  v1187.toNat
def k0_off19 (d0 : Dev nD) (c0_i32_1732 : BitVec 32) : Fin 4 → Nat :=
  let c2_i32_4 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.muli c2_i32_4 v10
  let v1235 : BitVec 32 := Scalar.addi v11 c0_i32_1732
  let v1236 : Index := Scalar.indexCast v1235
  let c0_1733 : Index := 0#32
  let c8_1734 : Index := 8#32
  let c0_1735 : Index := 0#32
  ![v1236.toNat, 0, 8, 0]
def k0_dev16 (d0 : Dev nD) : Nat :=
  let c0_i32_1748 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1747 : BitVec 32 := 4#32
  let v1244 : BitVec 32 := Scalar.muli v2 c4_i32_1747
  let v1245 : BitVec 32 := Scalar.addi c0_i32_1748 v1244
  let c1_i32_697 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v461 : BitVec 32 := Scalar.subi c1_i32_697 v5
  let c2_i32_1749 : BitVec 32 := 2#32
  let v1246 : BitVec 32 := Scalar.muli v461 c2_i32_1749
  let v1247 : BitVec 32 := Scalar.addi v1245 v1246
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1750 : BitVec 32 := 1#32
  let v1248 : BitVec 32 := Scalar.muli v8 c1_i32_1750
  let v1249 : BitVec 32 := Scalar.addi v1247 v1248
  v1249.toNat
def k0_dev17 (d0 : Dev nD) : Nat :=
  let c0_i32_1765 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1764 : BitVec 32 := 4#32
  let v1258 : BitVec 32 := Scalar.muli v2 c4_i32_1764
  let v1259 : BitVec 32 := Scalar.addi c0_i32_1765 v1258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1766 : BitVec 32 := 2#32
  let v1260 : BitVec 32 := Scalar.muli v5 c2_i32_1766
  let v1261 : BitVec 32 := Scalar.addi v1259 v1260
  let c1_i32_698 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v462 : BitVec 32 := Scalar.subi c1_i32_698 v8
  let c1_i32_1767 : BitVec 32 := 1#32
  let v1262 : BitVec 32 := Scalar.muli v462 c1_i32_1767
  let v1263 : BitVec 32 := Scalar.addi v1261 v1262
  v1263.toNat
def k0_dev18 (d0 : Dev nD) : Nat :=
  let c0_i32_1782 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1781 : BitVec 32 := 4#32
  let v1272 : BitVec 32 := Scalar.muli v2 c4_i32_1781
  let v1273 : BitVec 32 := Scalar.addi c0_i32_1782 v1272
  let c1_i32_699 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v463 : BitVec 32 := Scalar.subi c1_i32_699 v5
  let c2_i32_1783 : BitVec 32 := 2#32
  let v1274 : BitVec 32 := Scalar.muli v463 c2_i32_1783
  let v1275 : BitVec 32 := Scalar.addi v1273 v1274
  let c1_i32_700 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v464 : BitVec 32 := Scalar.subi c1_i32_700 v8
  let c1_i32_1784 : BitVec 32 := 1#32
  let v1276 : BitVec 32 := Scalar.muli v464 c1_i32_1784
  let v1277 : BitVec 32 := Scalar.addi v1275 v1276
  v1277.toNat
def k0_dev19 (d0 : Dev nD) : Nat :=
  let c0_i32_1851 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1850 : BitVec 32 := 4#32
  let v1334 : BitVec 32 := Scalar.muli v2 c4_i32_1850
  let v1335 : BitVec 32 := Scalar.addi c0_i32_1851 v1334
  let c1_i32_697 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v461 : BitVec 32 := Scalar.subi c1_i32_697 v5
  let c2_i32_1852 : BitVec 32 := 2#32
  let v1336 : BitVec 32 := Scalar.muli v461 c2_i32_1852
  let v1337 : BitVec 32 := Scalar.addi v1335 v1336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1853 : BitVec 32 := 1#32
  let v1338 : BitVec 32 := Scalar.muli v8 c1_i32_1853
  let v1339 : BitVec 32 := Scalar.addi v1337 v1338
  v1339.toNat
def k0_dev20 (d0 : Dev nD) : Nat :=
  let c0_i32_1868 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1867 : BitVec 32 := 4#32
  let v1348 : BitVec 32 := Scalar.muli v2 c4_i32_1867
  let v1349 : BitVec 32 := Scalar.addi c0_i32_1868 v1348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1869 : BitVec 32 := 2#32
  let v1350 : BitVec 32 := Scalar.muli v5 c2_i32_1869
  let v1351 : BitVec 32 := Scalar.addi v1349 v1350
  let c1_i32_698 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v462 : BitVec 32 := Scalar.subi c1_i32_698 v8
  let c1_i32_1870 : BitVec 32 := 1#32
  let v1352 : BitVec 32 := Scalar.muli v462 c1_i32_1870
  let v1353 : BitVec 32 := Scalar.addi v1351 v1352
  v1353.toNat
def k0_dev21 (d0 : Dev nD) : Nat :=
  let c0_i32_1885 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1884 : BitVec 32 := 4#32
  let v1362 : BitVec 32 := Scalar.muli v2 c4_i32_1884
  let v1363 : BitVec 32 := Scalar.addi c0_i32_1885 v1362
  let c1_i32_699 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v463 : BitVec 32 := Scalar.subi c1_i32_699 v5
  let c2_i32_1886 : BitVec 32 := 2#32
  let v1364 : BitVec 32 := Scalar.muli v463 c2_i32_1886
  let v1365 : BitVec 32 := Scalar.addi v1363 v1364
  let c1_i32_700 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v464 : BitVec 32 := Scalar.subi c1_i32_700 v8
  let c1_i32_1887 : BitVec 32 := 1#32
  let v1366 : BitVec 32 := Scalar.muli v464 c1_i32_1887
  let v1367 : BitVec 32 := Scalar.addi v1365 v1366
  v1367.toNat
def k0_dev22 (d0 : Dev nD) : Nat :=
  let c0_i32_1954 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1953 : BitVec 32 := 4#32
  let v1424 : BitVec 32 := Scalar.muli v2 c4_i32_1953
  let v1425 : BitVec 32 := Scalar.addi c0_i32_1954 v1424
  let c1_i32_697 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v461 : BitVec 32 := Scalar.subi c1_i32_697 v5
  let c2_i32_1955 : BitVec 32 := 2#32
  let v1426 : BitVec 32 := Scalar.muli v461 c2_i32_1955
  let v1427 : BitVec 32 := Scalar.addi v1425 v1426
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1956 : BitVec 32 := 1#32
  let v1428 : BitVec 32 := Scalar.muli v8 c1_i32_1956
  let v1429 : BitVec 32 := Scalar.addi v1427 v1428
  v1429.toNat
def k0_dev23 (d0 : Dev nD) : Nat :=
  let c0_i32_1971 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1970 : BitVec 32 := 4#32
  let v1438 : BitVec 32 := Scalar.muli v2 c4_i32_1970
  let v1439 : BitVec 32 := Scalar.addi c0_i32_1971 v1438
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1972 : BitVec 32 := 2#32
  let v1440 : BitVec 32 := Scalar.muli v5 c2_i32_1972
  let v1441 : BitVec 32 := Scalar.addi v1439 v1440
  let c1_i32_698 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v462 : BitVec 32 := Scalar.subi c1_i32_698 v8
  let c1_i32_1973 : BitVec 32 := 1#32
  let v1442 : BitVec 32 := Scalar.muli v462 c1_i32_1973
  let v1443 : BitVec 32 := Scalar.addi v1441 v1442
  v1443.toNat
def k0_dev24 (d0 : Dev nD) : Nat :=
  let c0_i32_1988 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1987 : BitVec 32 := 4#32
  let v1452 : BitVec 32 := Scalar.muli v2 c4_i32_1987
  let v1453 : BitVec 32 := Scalar.addi c0_i32_1988 v1452
  let c1_i32_699 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v463 : BitVec 32 := Scalar.subi c1_i32_699 v5
  let c2_i32_1989 : BitVec 32 := 2#32
  let v1454 : BitVec 32 := Scalar.muli v463 c2_i32_1989
  let v1455 : BitVec 32 := Scalar.addi v1453 v1454
  let c1_i32_700 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v464 : BitVec 32 := Scalar.subi c1_i32_700 v8
  let c1_i32_1990 : BitVec 32 := 1#32
  let v1456 : BitVec 32 := Scalar.muli v464 c1_i32_1990
  let v1457 : BitVec 32 := Scalar.addi v1455 v1456
  v1457.toNat
def k0_off20 (d0 : Dev nD) (c0_i32_2027 : BitVec 32) : Fin 4 → Nat :=
  let c2_i32_2026 : BitVec 32 := 2#32
  let c2_i32_1998 : BitVec 32 := 2#32
  let c1_i32_1997 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1466 : BitVec 32 := Scalar.subi c1_i32_1997 v5
  let v1467 : BitVec 32 := Scalar.muli c2_i32_1998 v1466
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1468 : BitVec 32 := Scalar.addi v1467 v8
  let v1491 : BitVec 32 := Scalar.muli c2_i32_2026 v1468
  let v1492 : BitVec 32 := Scalar.addi v1491 c0_i32_2027
  let v1493 : Index := Scalar.indexCast v1492
  let c0_2028 : Index := 0#32
  let c0_2029 : Index := 0#32
  let c0_2030 : Index := 0#32
  ![v1493.toNat, 0, 0, 0]
def k0_off21 (d0 : Dev nD) (c0_i32_2054 : BitVec 32) : Fin 4 → Nat :=
  let c2_i32_2053 : BitVec 32 := 2#32
  let c2_i32_1999 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1469 : BitVec 32 := Scalar.muli c2_i32_1999 v5
  let c1_i32_2000 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1470 : BitVec 32 := Scalar.subi c1_i32_2000 v8
  let v1471 : BitVec 32 := Scalar.addi v1469 v1470
  let v1510 : BitVec 32 := Scalar.muli c2_i32_2053 v1471
  let v1511 : BitVec 32 := Scalar.addi v1510 c0_i32_2054
  let v1512 : Index := Scalar.indexCast v1511
  let c0_2055 : Index := 0#32
  let c0_2056 : Index := 0#32
  let c0_2057 : Index := 0#32
  ![v1512.toNat, 0, 0, 0]
def k0_off22 (d0 : Dev nD) (c0_i32_2080 : BitVec 32) : Fin 4 → Nat :=
  let c2_i32_2079 : BitVec 32 := 2#32
  let c2_i32_2002 : BitVec 32 := 2#32
  let c1_i32_2001 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1472 : BitVec 32 := Scalar.subi c1_i32_2001 v5
  let v1473 : BitVec 32 := Scalar.muli c2_i32_2002 v1472
  let c1_i32_2003 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1474 : BitVec 32 := Scalar.subi c1_i32_2003 v8
  let v1475 : BitVec 32 := Scalar.addi v1473 v1474
  let v1529 : BitVec 32 := Scalar.muli c2_i32_2079 v1475
  let v1530 : BitVec 32 := Scalar.addi v1529 c0_i32_2080
  let v1531 : Index := Scalar.indexCast v1530
  let c0_2081 : Index := 0#32
  let c0_2082 : Index := 0#32
  let c0_2083 : Index := 0#32
  ![v1531.toNat, 0, 0, 0]
def k0_off23 (d0 : Dev nD) (c0_i32_2107 : BitVec 32) : Fin 4 → Nat :=
  let c2_i32_2106 : BitVec 32 := 2#32
  let c2_i32_1998 : BitVec 32 := 2#32
  let c1_i32_1997 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1466 : BitVec 32 := Scalar.subi c1_i32_1997 v5
  let v1467 : BitVec 32 := Scalar.muli c2_i32_1998 v1466
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1468 : BitVec 32 := Scalar.addi v1467 v8
  let v1548 : BitVec 32 := Scalar.muli c2_i32_2106 v1468
  let v1549 : BitVec 32 := Scalar.addi v1548 c0_i32_2107
  let v1550 : Index := Scalar.indexCast v1549
  let c0_2108 : Index := 0#32
  let c8_2109 : Index := 8#32
  let c0_2110 : Index := 0#32
  ![v1550.toNat, 0, 8, 0]
def k0_off24 (d0 : Dev nD) (c0_i32_2134 : BitVec 32) : Fin 4 → Nat :=
  let c2_i32_2133 : BitVec 32 := 2#32
  let c2_i32_1999 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1469 : BitVec 32 := Scalar.muli c2_i32_1999 v5
  let c1_i32_2000 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1470 : BitVec 32 := Scalar.subi c1_i32_2000 v8
  let v1471 : BitVec 32 := Scalar.addi v1469 v1470
  let v1567 : BitVec 32 := Scalar.muli c2_i32_2133 v1471
  let v1568 : BitVec 32 := Scalar.addi v1567 c0_i32_2134
  let v1569 : Index := Scalar.indexCast v1568
  let c0_2135 : Index := 0#32
  let c8_2136 : Index := 8#32
  let c0_2137 : Index := 0#32
  ![v1569.toNat, 0, 8, 0]
def k0_off25 (d0 : Dev nD) (c0_i32_2161 : BitVec 32) : Fin 4 → Nat :=
  let c2_i32_2160 : BitVec 32 := 2#32
  let c2_i32_2002 : BitVec 32 := 2#32
  let c1_i32_2001 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1472 : BitVec 32 := Scalar.subi c1_i32_2001 v5
  let v1473 : BitVec 32 := Scalar.muli c2_i32_2002 v1472
  let c1_i32_2003 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1474 : BitVec 32 := Scalar.subi c1_i32_2003 v8
  let v1475 : BitVec 32 := Scalar.addi v1473 v1474
  let v1586 : BitVec 32 := Scalar.muli c2_i32_2160 v1475
  let v1587 : BitVec 32 := Scalar.addi v1586 c0_i32_2161
  let v1588 : Index := Scalar.indexCast v1587
  let c0_2162 : Index := 0#32
  let c8_2163 : Index := 8#32
  let c0_2164 : Index := 0#32
  ![v1588.toNat, 0, 8, 0]
abbrev stage0_0 : Fin 1 → Memref sig .tc .vmem S8x8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x8x16x128 : Shape := ⟨4, ![8, 8, 16, 128]⟩
abbrev S8x2048x16x128 : Shape := ⟨4, ![8, 2048, 16, 128]⟩
abbrev S8x16x8x2048 : Shape := ⟨4, ![8, 16, 8, 2048]⟩
abbrev S_ : Shape := ⟨0, ![]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 20
  | .vmem => 0
  | .smem => 0
  | _ => 0

abbrev bufTy : (tb : Table) → Fin (tcTables nBuf tb) → BufTy
  | .hbm, ⟨0, _⟩ => ⟨S8x8x16x128, .f32⟩
  | .hbm, ⟨1, _⟩ => ⟨S8x2048x16x128, .f32⟩
  | .hbm, ⟨2, _⟩ => ⟨S8x2048x16x128, .f32⟩
  | .hbm, ⟨3, _⟩ => ⟨S8x16x8x2048, .f32⟩
  | .hbm, ⟨4, _⟩ => ⟨S_, .f32⟩
  | .hbm, ⟨5, _⟩ => ⟨S8x16x8x2048, .f32⟩
  | .hbm, ⟨6, _⟩ => ⟨S8x16x8x2048, .f32⟩
  | .hbm, ⟨7, _⟩ => ⟨S_, .f32⟩
  | .hbm, ⟨8, _⟩ => ⟨S8x16x8, .f32⟩
  | .hbm, ⟨9, _⟩ => ⟨S8x16x8x1, .f32⟩
  | .hbm, ⟨10, _⟩ => ⟨S8x16x8x2048, .f32⟩
  | .hbm, ⟨11, _⟩ => ⟨S8x16x8x2048, .f32⟩
  | .hbm, ⟨12, _⟩ => ⟨S8x16x8x2048, .f32⟩
  | .hbm, ⟨13, _⟩ => ⟨S_, .f32⟩
  | .hbm, ⟨14, _⟩ => ⟨S8x16x8, .f32⟩
  | .hbm, ⟨15, _⟩ => ⟨S8x16x8x1, .f32⟩
  | .hbm, ⟨16, _⟩ => ⟨S8x16x8x2048, .f32⟩
  | .hbm, ⟨17, _⟩ => ⟨S8x16x8x2048, .f32⟩
  | .hbm, ⟨18, _⟩ => ⟨S8x16x128x8, .f32⟩
  | .hbm, ⟨19, _⟩ => ⟨S8x8x16x128, .f32⟩
  | _, _ => ⟨S8x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Steps.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

/-! # The kernel's operations, unit by unit

The kernel works on four units `u`: half the heads (`8 * (u % 2)` onwards) of one batch of a device's pair of batches
(`u / 2`). This file names the buffers' windows, the semaphores and the neighbours by such indices, writes the kernel as
sequences over the indices, and shows the printed kernel to be that text. -/

noncomputable section

namespace Cert.Attn

open Idealize.ShloMosaic Idealize.SL.Sem Cert.KernelIdeal Cert.KernelIdeal.Gen

variable {F : FTy → Type} [FloatOps F]

/-! ## Units and neighbours -/

/-- The batch, of a device's two, a unit belongs to. -/
def ub (u : Fin 4) : Fin 2 := ⟨u.val / 2, by omega⟩
/-- The first head of a unit. -/
def uh (u : Fin 4) : ℕ := 8 * (u.val % 2)

/-- The four neighbours: `0` across the axis the sequence is split on, `1`, `2`, `3` the others of the same half. -/
def nb (d : Dev nD) : Fin 4 → Dev nD
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩

theorem nb_nb : ∀ (k : Fin 4) (d : Dev nD), nb (nb d k) k = d := by decide +kernel

/-- The batch of the result that slot `r` of unit `u` holds on device `d`: `0` the device's own, `1 + i` the one
    received from neighbour `1 + i`. -/
def row (d : Dev nD) (r u : Fin 4) : ℕ := match r with
  | 0 => k0_off1 d (BitVec.ofNat 32 (ub u).val) 0
  | 1 => k0_off20 d (BitVec.ofNat 32 (ub u).val) 0
  | 2 => k0_off21 d (BitVec.ofNat 32 (ub u).val) 0
  | 3 => k0_off22 d (BitVec.ofNat 32 (ub u).val) 0

/-! ## Windows -/

/-- The result's staging buffer and the query's. -/
abbrev mQ : Memref sig .tc .vmem S8x8x16x128 .f32 := Memref.whole cc0_stg0_0
abbrev mOut : Memref sig .tc .vmem S8x8x16x128 .f32 := Memref.whole cc0_stg1_0
/-- The keys (`0`) and values (`1`) in main memory, and their buffers. -/
def mSrc : Fin 2 → Memref sig .tc .hbm S8x1024x16x128 .f32
  | 0 => Memref.whole main_arg1
  | 1 => Memref.whole main_arg2
def mDst : Fin 2 → Memref sig .tc .vmem S2x16x1024x128 .f32
  | 0 => Memref.whole cc0_scratch0
  | 1 => Memref.whole cc0_scratch1
abbrev mO : Memref sig .tc .vmem S2x16x8x128 .f32 := Memref.whole cc0_scratch2
abbrev mL : Memref sig .tc .vmem S2x16x8 .f32 := Memref.whole cc0_scratch3
abbrev mSO : Memref sig .tc .vmem S2x16x8x128 .bf16 := Memref.whole cc0_scratch4
abbrev mRO : Memref sig .tc .vmem S2x16x8x128 .bf16 := Memref.whole cc0_scratch5
abbrev mSL : Memref sig .tc .vmem S2x16x8 .f32 := Memref.whole cc0_scratch6
abbrev mRL : Memref sig .tc .vmem S2x16x8 .f32 := Memref.whole cc0_scratch7
abbrev mSF : Memref sig .tc .vmem S2x8x16x128 .bf16 := Memref.whole cc0_scratch8
abbrev mRF : Memref sig .tc .vmem S3x2x8x16x128 .bf16 := Memref.whole cc0_scratch9

theorem inb_src : ∀ (d : Dev nD) (b : Fin 2) (h : Fin 16) (a : Fin 4),
    (![k0_off1 d (BitVec.ofNat 32 b.val) 0, 0, h.val, 0] : Fin 4 → ℕ) a + S1x1024x1x128.size a ≤ S8x1024x16x128.size a := by decide +kernel
theorem inb_dst : ∀ (b : Fin 2) (h : Fin 16) (a : Fin 4), (![b.val, h.val, 0, 0] : Fin 4 → ℕ) a + S1x1x1024x128.size a ≤ S2x16x1024x128.size a := by decide
theorem inb_kv : ∀ (u : Fin 4) (a : Fin 4), (![(ub u).val, uh u, 0, 0] : Fin 4 → ℕ) a + S1x8x1024x128.size a ≤ S2x16x1024x128.size a := by decide
theorem inb_o : ∀ (u : Fin 4) (a : Fin 4), (![(ub u).val, uh u, 0, 0] : Fin 4 → ℕ) a + S1x8x8x128.size a ≤ S2x16x8x128.size a := by decide
theorem inb_l : ∀ (u : Fin 4) (a : Fin 3), (![(ub u).val, uh u, 0] : Fin 3 → ℕ) a + S1x8x8.size a ≤ S2x16x8.size a := by decide
theorem inb_sf : ∀ (u : Fin 4) (a : Fin 4), (![(ub u).val, 0, uh u, 0] : Fin 4 → ℕ) a + S1x8x8x128.size a ≤ S2x8x16x128.size a := by decide
theorem inb_rf : ∀ (i : Fin 3) (u : Fin 4) (a : Fin 5), (![i.val, (ub u).val, 0, uh u, 0] : Fin 5 → ℕ) a + S1x1x8x8x128.size a ≤ S3x2x8x16x128.size a := by decide
theorem inb_out : ∀ (d : Dev nD) (r u : Fin 4) (a : Fin 4), (![row d r u, 0, uh u, 0] : Fin 4 → ℕ) a + S1x8x8x128.size a ≤ S8x8x16x128.size a := by decide +kernel

/-- The rectangle of one head of one batch of a key or value block, in main memory and in its buffer. -/
abbrev rSrc (d : Dev nD) (b : Fin 2) (h : Fin 16) : Rect S8x1024x16x128 :=
  Rect.unit (s := S8x1024x16x128) ![k0_off1 d (BitVec.ofNat 32 b.val) 0, 0, h.val, 0] S1x1024x1x128.size (inb_src d b h)
abbrev rDst (b : Fin 2) (h : Fin 16) : Rect S2x16x1024x128 :=
  Rect.unit (s := S2x16x1024x128) ![b.val, h.val, 0, 0] S1x1x1024x128.size (inb_dst b h)
/-- A unit's rectangle in the key and value buffers, in a partial result, in a partial denominator, in the finished
    unit to send, in those received, and in the result. -/
abbrev rKV (u : Fin 4) : Rect S2x16x1024x128 := Rect.unit (s := S2x16x1024x128) ![(ub u).val, uh u, 0, 0] S1x8x1024x128.size (inb_kv u)
abbrev rO (u : Fin 4) : Rect S2x16x8x128 := Rect.unit (s := S2x16x8x128) ![(ub u).val, uh u, 0, 0] S1x8x8x128.size (inb_o u)
abbrev rL (u : Fin 4) : Rect S2x16x8 := Rect.unit (s := S2x16x8) ![(ub u).val, uh u, 0] S1x8x8.size (inb_l u)
abbrev rSF (u : Fin 4) : Rect S2x8x16x128 := Rect.unit (s := S2x8x16x128) ![(ub u).val, 0, uh u, 0] S1x8x8x128.size (inb_sf u)
abbrev rRF (i : Fin 3) (u : Fin 4) : Rect S3x2x8x16x128 :=
  Rect.unit (s := S3x2x8x16x128) ![i.val, (ub u).val, 0, uh u, 0] S1x1x8x8x128.size (inb_rf i u)
abbrev rOut (d : Dev nD) (r u : Fin 4) : Rect S8x8x16x128 :=
  Rect.unit (s := S8x8x16x128) ![row d r u, 0, uh u, 0] S1x8x8x128.size (inb_out d r u)
abbrev rQ (d : Dev nD) : Rect S8x8x16x128 := Rect.unit (s := S8x8x16x128) (k0_off17 d) S2x8x16x128.size (k0_off17_inb d)

/-- The windows the copies move. -/
abbrev wSrc (d : Dev nD) (j b : Fin 2) (h : Fin 16) : Memref sig .tc .hbm S1024x128 .f32 :=
  ((mSrc j).slice (rSrc d b h) (fun _ => rfl)).squeeze S1024x128 squeezes_S1x1024x1x128_S1024x128
abbrev wDst (j b : Fin 2) (h : Fin 16) : Memref sig .tc .vmem S1024x128 .f32 :=
  ((mDst j).slice (rDst b h) (fun _ => rfl)).squeeze S1024x128 squeezes_S1x1x1024x128_S1024x128
abbrev wO (m : Memref sig .tc .vmem S2x16x8x128 .bf16) (u : Fin 4) : Memref sig .tc .vmem S8x8x128 .bf16 :=
  (m.slice (rO u) (fun _ => rfl)).squeeze S8x8x128 squeezes_S1x8x8x128_S8x8x128
abbrev wL (m : Memref sig .tc .vmem S2x16x8 .f32) (u : Fin 4) : Memref sig .tc .vmem S8x8 .f32 :=
  (m.slice (rL u) (fun _ => rfl)).squeeze S8x8 squeezes_S1x8x8_S8x8
abbrev wSF (u : Fin 4) : Memref sig .tc .vmem S8x8x128 .bf16 :=
  (mSF.slice (rSF u) (fun _ => rfl)).squeeze S8x8x128 squeezes_S1x8x8x128_S8x8x128
abbrev wRF (i : Fin 3) (u : Fin 4) : Memref sig .tc .vmem S8x8x128 .bf16 :=
  (mRF.slice (rRF i u) (fun _ => rfl)).squeeze S8x8x128 squeezes_S1x1x8x8x128_S8x8x128

theorem packed_o : ∀ u : Fin 4, (rO u).PackedRows (EltTy.packing .bf16) := by decide
theorem words_o : ∀ u : Fin 4, (rO u).WholeWords (EltTy.packing .bf16) := by decide
theorem packed_sf : ∀ u : Fin 4, (rSF u).PackedRows (EltTy.packing .bf16) := by decide
theorem words_sf : ∀ u : Fin 4, (rSF u).WholeWords (EltTy.packing .bf16) := by decide
theorem words_rf : ∀ (i : Fin 3) (u : Fin 4), (rRF i u).WholeWords (EltTy.packing .bf16) := by decide

theorem exact_src (d : Dev nD) (j b : Fin 2) (h : Fin 16) : (wSrc d j b h).view.WordExact := (View.wordExact_bits rfl).reshape _ _
theorem exact_dst (j b : Fin 2) (h : Fin 16) : (wDst j b h).view.WordExact := (View.wordExact_bits rfl).reshape _ _
theorem exact_so (u : Fin 4) : (wO mSO u).view.WordExact := ((Memref.isWhole_whole _).wordExact_slice rfl _ (words_o u)).reshape _ _
theorem exact_ro (u : Fin 4) : (wO mRO u).view.WordExact := ((Memref.isWhole_whole _).wordExact_slice rfl _ (words_o u)).reshape _ _
theorem exact_l (m : Memref sig .tc .vmem S2x16x8 .f32) (u : Fin 4) : (wL m u).view.WordExact := (View.wordExact_bits rfl).reshape _ _
theorem exact_sf (u : Fin 4) : (wSF u).view.WordExact := ((Memref.isWhole_whole _).wordExact_slice rfl _ (words_sf u)).reshape _ _
theorem exact_rf (i : Fin 3) (u : Fin 4) : (wRF i u).view.WordExact := ((Memref.isWhole_whole _).wordExact_slice rfl _ (words_rf i u)).reshape _ _

/-! ## Semaphores -/

theorem inb_ld : ∀ (j b : Fin 2) (h : Fin 16) (a : Fin 3), (![j.val, b.val, h.val] : Fin 3 → ℕ) a + S1x1x1.size a ≤ S2x2x16.size a := by decide
theorem inb_p1 : ∀ (u : Fin 4) (s : Fin 2) (a : Fin 2), (![u.val, s.val] : Fin 2 → ℕ) a + S1x1.size a ≤ S4x2.size a := by decide
theorem inb_p2 : ∀ (i : Fin 3) (u : Fin 4) (a : Fin 2), (![i.val, u.val] : Fin 2 → ℕ) a + S1x1.size a ≤ S3x4.size a := by decide

/-- A key (`0`) or value (`1`) head's semaphore. -/
def sLd (j b : Fin 2) (h : Fin 16) : DmaSem sig :=
  ((cc0_scratch10.slice (Rect.unit (s := S2x2x16) ![j.val, b.val, h.val] S1x1x1.size (inb_ld j b h))).squeeze S_ squeezes_S1x1x1_S_).sem
/-- The first exchange's semaphores: partial results (`0`) or denominators (`1`), sending (`0`) or receiving (`1`). -/
def sP1 (t : Fin 2) (u : Fin 4) (s : Fin 2) : DmaSem sig :=
  (((match t with | 0 => cc0_scratch11 | 1 => cc0_scratch12 : DmaSems sig S4x2).slice (Rect.unit (s := S4x2) ![u.val, s.val] S1x1.size (inb_p1 u s))).squeeze S_ squeezes_S1x1_S_).sem
/-- The second exchange's: sending, receiving. -/
def sP2s (i : Fin 3) (u : Fin 4) : DmaSem sig :=
  ((cc0_scratch13.slice (Rect.unit (s := S3x4) ![i.val, u.val] S1x1.size (inb_p2 i u))).squeeze S_ squeezes_S1x1_S_).sem
def sP2r (i : Fin 3) (u : Fin 4) : DmaSem sig :=
  ((cc0_scratch14.slice (Rect.unit (s := S3x4) ![i.val, u.val] S1x1.size (inb_p2 i u))).squeeze S_ squeezes_S1x1_S_).sem
/-- The barrier. -/
def sBar : Sem sig := (SemArray.scalar (sig.barrier 0 rfl) : Sems sig S_).sem

/-! ## Values -/

theorem slices_q : ∀ u : Fin 4, S2x16x8x128.Slices ![(ub u).val, uh u, 0, 0] S1x8x8x128 := by decide

/-- A device's two batches of queries, head axis first. -/
def qv (x : Vec F S2x8x16x128 .f32) : FVec F S2x16x8x128 .f32 := k0_pay1 x
/-- A unit's scaled query. -/
def qU (q : FVec F S2x16x8x128 .f32) (u : Fin 4) : FVec F S8x8x128 .bf16 :=
  truncf .bf16 (mulf (shapeCast S8x8x128 (extractStridedSlice S1x8x8x128 ![(ub u).val, uh u, 0, 0] q (slices_q u)) shapeCasts_S1x8x8x128_S8x8x128)
    (broadcast S8x8x128 (Scalar.ofBits .f32 0x3DB504F3#32))) bitsLt_bf16_f32
/-- A unit's exponentials, denominators and weighted sums over the device's half of the sequence. -/
def pU (q : FVec F S2x16x8x128 .f32) (u : Fin 4) (k : Vec F S1x8x1024x128 .f32) : FVec F S8x8x1024 .f32 :=
  exp (matmul dot_S8x8x128_S8x1024x128_S8x8x1024_2_2_1_1_0_0 none (qU q u)
    (truncf .bf16 (shapeCast S8x1024x128 k shapeCasts_S1x8x1024x128_S8x1024x128) bitsLt_bf16_f32) (constant S8x8x1024 .f32 0x00000000#32))
def lU (q : FVec F S2x16x8x128 .f32) (u : Fin 4) (k : Vec F S1x8x1024x128 .f32) : FVec F S8x8 .f32 :=
  multiReduction .add [2] S8x8 (pU q u k) 0x00000000#32 reduces_S8x8x1024_S8x8 (.inl rfl) rfl
def oU (q : FVec F S2x16x8x128 .f32) (u : Fin 4) (k v : Vec F S1x8x1024x128 .f32) : FVec F S8x8x128 .f32 :=
  matmul dot_S8x8x1024_S8x1024x128_S8x8x128_2_1_1_2_0_0 none (truncf .bf16 (pU q u k) bitsLt_bf16_f32)
    (truncf .bf16 (shapeCast S8x1024x128 v shapeCasts_S1x8x1024x128_S8x1024x128) bitsLt_bf16_f32) (constant S8x8x128 .f32 0x00000000#32)
/-- What a unit stores: its partial result and denominator, and the partial result narrowed for sending. -/
def oSt (q : FVec F S2x16x8x128 .f32) (u : Fin 4) (k v : Vec F S1x8x1024x128 .f32) : FVec F S1x8x8x128 .f32 :=
  shapeCast S1x8x8x128 (oU q u k v) shapeCasts_S8x8x128_S1x8x8x128
def lSt (q : FVec F S2x16x8x128 .f32) (u : Fin 4) (k : Vec F S1x8x1024x128 .f32) : FVec F S1x8x8 .f32 :=
  shapeCast S1x8x8 (lU q u k) shapeCasts_S8x8_S1x8x8
def oSd (q : FVec F S2x16x8x128 .f32) (u : Fin 4) (k v : Vec F S1x8x1024x128 .f32) : FVec F S1x8x8x128 .bf16 :=
  shapeCast S1x8x8x128 (truncf .bf16 (oU q u k v) bitsLt_bf16_f32) shapeCasts_S8x8x128_S1x8x8x128
/-- A finished unit, as stored, as narrowed for sending, and as widened on arrival. -/
def fin (o : Vec F S1x8x8x128 .f32) (o' : Vec F S1x8x8x128 .bf16) (l l' : Vec F S1x8x8 .f32) : FVec F S8x8x128 .f32 := k0_pay33 (k0_pay32 o o') l l'
def finSt (o : Vec F S1x8x8x128 .f32) (o' : Vec F S1x8x8x128 .bf16) (l l' : Vec F S1x8x8 .f32) : FVec F S1x8x8x128 .f32 :=
  shapeCast S1x8x8x128 (fin o o' l l') shapeCasts_S8x8x128_S1x8x8x128
def finSd (o : Vec F S1x8x8x128 .f32) (o' : Vec F S1x8x8x128 .bf16) (l l' : Vec F S1x8x8 .f32) : FVec F S1x8x8x128 .bf16 :=
  shapeCast S1x8x8x128 (truncf .bf16 (fin o o' l l') bitsLt_bf16_f32) shapeCasts_S8x8x128_S1x8x8x128
def widen (x : Vec F S1x1x8x8x128 .bf16) : FVec F S1x8x8x128 .f32 := k0_pay46 x

/-! ## The kernel as sequences -/

/-- An operation of the kernel with no result. -/
abbrev Eff (F : FTy → Type) [FloatOps F] : Type → Type := TpuEff nD τ sig (Elt F) Λ₀ .tc
abbrev Pg (F : FTy → Type) [FloatOps F] : Type 1 := Prog (Eff F) PUnit.{1}

/-- Operations one after another, then the rest. -/
def each {ι : Type} (e : ι → Pg F → Pg F) : List ι → Pg F → Pg F
  | [], k => k
  | i :: is, k => e i (each e is k)

/-- The heads of a unit, keys before values; and of all units. -/
def heads (u : Fin 4) : List (Fin 2 × Fin 2 × Fin 16) :=
  (List.ofFn fun t : Fin 8 => [((0 : Fin 2), ub u, (⟨uh u + t.val, by unfold uh; omega⟩ : Fin 16)), (1, ub u, ⟨uh u + t.val, by unfold uh; omega⟩)]).flatten
def units : List (Fin 4) := [0, 1, 2, 3]
def allHeads : List (Fin 2 × Fin 2 × Fin 16) := units.flatMap heads

def startLd (d : Dev nD) (x : Fin 2 × Fin 2 × Fin 16) (k : Pg F) : Pg F :=
  .op (.enqueueDma (wSrc d x.1 x.2.1 x.2.2) (.here (wDst x.1 x.2.1 x.2.2)) (.dma (sLd x.1 x.2.1 x.2.2)) (exact_src d x.1 x.2.1 x.2.2) (exact_dst x.1 x.2.1 x.2.2)
    ⟨Or.inl rfl, trivial⟩) fun _ => k
def waitLd (d : Dev nD) (x : Fin 2 × Fin 2 × Fin 16) (k : Pg F) : Pg F :=
  .op (.waitDma2 (sLd x.1 x.2.1 x.2.2) (wSrc d x.1 x.2.1 x.2.2) (wDst x.1 x.2.1 x.2.2) (exact_src d x.1 x.2.1 x.2.2) (exact_dst x.1 x.2.1 x.2.2)) fun _ => k

/-- The signals and the barrier's wait. -/
def bars (d : Dev nD) (k : Pg F) : Pg F :=
  each (fun i k => (semSignalWord (nb d i) sBar 1#32 >>= fun _ => k : Pg F)) [0, 1, 2, 3] (semWaitWord sBar 4#32 >>= fun _ => k)

/-- A unit of the first half. -/
def unit1 (d : Dev nD) (q : FVec F S2x16x8x128 .f32) (u : Fin 4) (k : Pg F) : Pg F :=
  each (waitLd d) (heads u) <|
  .op (.load (mDst 0) (rKV u).toLoadRect (View.loadsAt_vmem h_S1x8x1024x128)) fun (kk : Vec F S1x8x1024x128 .f32) =>
  .op (.load (mDst 1) (rKV u).toLoadRect (View.loadsAt_vmem h_S1x8x1024x128)) fun (vv : Vec F S1x8x1024x128 .f32) =>
  .op (.load mO (rO u).toLoadRect (View.loadsAt_vmem h_S1x8x8x128)) fun _ =>
  .op (.store mO (rO u) (oSt q u kk vv) Finset.univ (View.stores_vmem_bits_univ h_S1x8x8x128 rfl) (.inl rfl)) fun _ =>
  .op (.load mL (rL u).toLoadRect (View.loadsAt_vmem h_S1x8x8)) fun _ =>
  .op (.store mL (rL u) (lSt q u kk) Finset.univ (View.stores_vmem_bits_univ h_S1x8x8 rfl) (.inl rfl)) fun _ =>
  .op (.load mSO (rO u).toLoadRect (View.loadsAt_vmem h_S1x8x8x128)) fun _ =>
  .op (.store mSO (rO u) (oSd q u kk vv) Finset.univ
    (View.stores_vmem h_S1x8x8x128 ((Memref.isWhole_whole _).storeExact_slice rfl _ (packed_o u)) (fun _ => rfl)) (.inl rfl)) fun _ =>
  .op (.load mSL (rL u).toLoadRect (View.loadsAt_vmem h_S1x8x8)) fun _ =>
  .op (.store mSL (rL u) (lSt q u kk) Finset.univ (View.stores_vmem_bits_univ h_S1x8x8 rfl) (.inl rfl)) fun _ =>
  .op (.enqueueDma (wO mSO u) (.remote (Dev.tc (nb d 0)) (wO mRO u) (.dma (sP1 0 u 0))) (.dma (sP1 0 u 1)) (exact_so u) (exact_ro u) ⟨⟨rfl, Or.inl rfl⟩, trivial⟩) fun _ =>
  .op (.enqueueDma (wL mSL u) (.remote (Dev.tc (nb d 0)) (wL mRL u) (.dma (sP1 1 u 0))) (.dma (sP1 1 u 1)) (exact_l _ u) (exact_l _ u) ⟨⟨rfl, Or.inl rfl⟩, trivial⟩) fun _ => k

def send2 (d : Dev nD) (u : Fin 4) (i : Fin 3) (k : Pg F) : Pg F :=
  .op (.enqueueDma (wSF u) (.remote (Dev.tc (nb d i.succ)) (wRF i u) (.dma (sP2s i u))) (.dma (sP2r i u)) (exact_sf u) (exact_rf i u) ⟨⟨rfl, Or.inl rfl⟩, trivial⟩) fun _ => k

/-- A unit of the second half. -/
def unit2 (d : Dev nD) (u : Fin 4) (k : Pg F) : Pg F :=
  .op (.waitDma2 (sP1 0 u 1) (wO mSO u) (wO mRO u) (exact_so u) (exact_ro u)) fun _ =>
  .op (.waitDma2 (sP1 1 u 1) (wL mSL u) (wL mRL u) (exact_l _ u) (exact_l _ u)) fun _ =>
  .op (.load mO (rO u).toLoadRect (View.loadsAt_vmem h_S1x8x8x128)) fun (o : Vec F S1x8x8x128 .f32) =>
  .op (.load mRO (rO u).toLoadRect (View.loadsAt_vmem h_S1x8x8x128)) fun (o' : Vec F S1x8x8x128 .bf16) =>
  .op (.load mL (rL u).toLoadRect (View.loadsAt_vmem h_S1x8x8)) fun (l : Vec F S1x8x8 .f32) =>
  .op (.load mRL (rL u).toLoadRect (View.loadsAt_vmem h_S1x8x8)) fun (l' : Vec F S1x8x8 .f32) =>
  .op (.load mOut (rOut d 0 u).toLoadRect (View.loadsAt_vmem h_S1x8x8x128)) fun _ =>
  .op (.store mOut (rOut d 0 u) (finSt o o' l l') Finset.univ (View.stores_vmem_bits_univ h_S1x8x8x128 rfl) (.inl rfl)) fun _ =>
  .op (.load mSF (rSF u).toLoadRect (View.loadsAt_vmem h_S1x8x8x128)) fun _ =>
  .op (.store mSF (rSF u) (finSd o o' l l') Finset.univ
    (View.stores_vmem h_S1x8x8x128 ((Memref.isWhole_whole _).storeExact_slice rfl _ (packed_sf u)) (fun _ => rfl)) (.inl rfl)) fun _ =>
  each (send2 d u) [0, 1, 2] k

/-- An arrival of the second exchange. -/
def recv2 (d : Dev nD) (u : Fin 4) (i : Fin 3) (k : Pg F) : Pg F :=
  .op (.waitDma2 (sP2r i u) (wSF u) (wRF i u) (exact_sf u) (exact_rf i u)) fun _ =>
  .op (.load mRF (rRF i u).toLoadRect (View.loadsAt_vmem h_S1x1x8x8x128)) fun (x : Vec F S1x1x8x8x128 .bf16) =>
  .op (.load mOut (rOut d i.succ u).toLoadRect (View.loadsAt_vmem h_S1x8x8x128)) fun _ =>
  .op (.store mOut (rOut d i.succ u) (widen x) Finset.univ (View.stores_vmem_bits_univ h_S1x8x8x128 rfl) (.inl rfl)) fun _ => k

/-- The waits for what was sent. -/
def sent1 (u : Fin 4) (k : Pg F) : Pg F :=
  .op (.waitDma2 (sP1 0 u 0) (wO mRO u) (wO mSO u) (exact_ro u) (exact_so u)) fun _ =>
  .op (.waitDma2 (sP1 1 u 0) (wL mRL u) (wL mSL u) (exact_l _ u) (exact_l _ u)) fun _ => k
def sent2 (u : Fin 4) (i : Fin 3) (k : Pg F) : Pg F :=
  .op (.waitDma2 (sP2s i u) (wRF i u) (wSF u) (exact_rf i u) (exact_sf u)) fun _ => k

/-- The kernel on device `d`. -/
def text (d : Dev nD) : Pg F :=
  each (startLd d) allHeads <| bars d <|
  .op (.load mQ (rQ d).toLoadRect (View.loadsAt_vmem h_S2x8x16x128)) fun (x : Vec F S2x8x16x128 .f32) =>
  each (unit1 d (qv x)) units <| each (unit2 d) units <|
  each (fun u => each (recv2 d u) [0, 1, 2]) units <|
  each sent1 units <| each (fun u => each (sent2 u) [0, 1, 2]) units (.ret ⟨⟩)

set_option maxRecDepth 100000 in
set_option maxHeartbeats 0 in
/-- The printed kernel is that text. -/
theorem body_eq (t : Fin cfg0.N) : bodyAt0 (F := F) t = .op .deviceId fun d => text d := by
  rw [fin_N0 t]
  chain_rfl

end Cert.Attn

end
-- ==== Proof.Parts.lean ====
module

public import proofs.«01_k».proof.Proof.Steps

@[expose] public section

/-! # Rectangles of a buffer held at a value

What the proof holds of a buffer is a rectangle of it and the values the rectangle reads. The rules below say what a load,
a store, a copy and a send do in those terms; a copy moves the values of one rectangle, row by row, to another of as many
elements. -/

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The copies' ghost state: the staging's, with one duty name, and the kernel's, with four. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-- The values of one shape in the order of another of as many elements. -/
def moved {α : Type} {s t : Shape} (h : t.numel = s.numel) (X : s.Idx → α) : t.Idx → α := fun j => X (Shape.reshapeEquiv h j)

theorem moved_self {α : Type} {s : Shape} (h : s.numel = s.numel) (X : s.Idx → α) : moved h X = X :=
  funext fun j => congrArg X (Shape.reshapeEquiv_self h j)

section Part

variable {sp sp' : Space} {s s' t : Shape} {e : EltTy}

/-- Device `c` holds share `q` of rectangle `r` of `m`, which reads `X`. -/
def part (c : Dev nD) (m : Memref sig .tc sp s e) (r : Rect s) (q : PosShare TreeShare) (X : r.shape.Idx → Elt F e) : sProp 𝕄 :=
  iprop(∃ f : Buf (Elt F) ((m.access r).loc (c : Thread nD τ)), ⌜(m.access r).read (Elt F) f = X⌝
    ∗ ((m.access r).loc (c : Thread nD τ) ↦[(m.access r).set]{q} f))

instance part_storable (c : Dev nD) (m : Memref sig .tc sp s e) (r : Rect s) (q : PosShare TreeShare) (X : r.shape.Idx → Elt F e) :
    BI.Storable (upEmb : UEmb _ 𝕄) (part c m r q X) := by unfold part; infer_instance

/-- It holds the rectangle, whatever it reads. -/
def hole (c : Dev nD) (m : Memref sig .tc sp s e) (r : Rect s) : sProp 𝕄 := iprop(∃ X, part (F := F) c m r fullShare X)

instance hole_storable (c : Dev nD) (m : Memref sig .tc sp s e) (r : Rect s) : BI.Storable (upEmb : UEmb _ 𝕄) (hole (F := F) c m r) := by
  unfold hole; infer_instance

theorem hole_of (c : Dev nD) (m : Memref sig .tc sp s e) (r : Rect s) (X : r.shape.Idx → Elt F e) :
    (part c m r fullShare X : sProp 𝕄) ⊢ hole c m r := by
  unfold hole; iintro H; iexists X; iexact H

theorem part_load (c : Dev nD) {m : Memref sig .tc .vmem s e} {r : Rect s} {hl : m.view.LoadsAt r.toLoadRect} (q : PosShare TreeShare)
    (X : r.shape.Idx → Elt F e) {k : (r.shape.Idx → Elt F e) → Pg F} {Q : PUnit.{1} → sProp 𝕄} :
    part c m r q X ⊢ iprop((part c m r q X -∗ wp frame (wpE (defs₀ (F := F)) 𝒱₀ (c : Thread nD τ) none) Set.univ (k X) Q)
      -∗ wp frame (wpE (defs₀ (F := F)) 𝒱₀ (c : Thread nD τ) none) Set.univ (.op (.load m r.toLoadRect hl) k) Q) := by
  unfold part
  iintro ⟨%f, %hf, H⟩ Hk
  iapply (wp_load_rect 𝒱₀ (c : Thread nD τ) none Set.univ (m := m) (r := r) Finset.Subset.rfl) $$ H
  iintro H
  rw [hf]
  iapply Hk
  iexists f
  isplitr; · ipureintro; exact hf
  iexact H

theorem part_store (c : Dev nD) {m : Memref sig .tc .vmem s e} {r : Rect s} {x : r.shape.Idx → Elt F e} {hx : (m.access r).Stores Finset.univ}
    {hm : (Finset.univ : Finset r.shape.Idx) = Finset.univ ∨ ∀ a, r.stride a = 1}
    {k : PUnit → Pg F} {Q : PUnit.{1} → sProp 𝕄} :
    hole (F := F) c m r ⊢ iprop((part c m r fullShare x -∗ wp frame (wpE (defs₀ (F := F)) 𝒱₀ (c : Thread nD τ) none) Set.univ (k ⟨⟩) Q)
      -∗ wp frame (wpE (defs₀ (F := F)) 𝒱₀ (c : Thread nD τ) none) Set.univ (.op (.store m r x Finset.univ hx hm) k) Q) := by
  unfold hole part
  iintro ⟨%X, %f, -, H⟩ Hk
  iapply (wp_store 𝒱₀ (c : Thread nD τ) none Set.univ (m := m) (r := r) (Mk := Finset.univ)
    (S := (m.access r).set) (f := f) (by rw [View.setOn_univ])) $$ H
  iintro H
  iapply Hk
  iexists _
  isplitr
  rotate_left
  · iexact H
  ipureintro
  exact View.read_write_univ _ _

/-- A rectangle's window of another shape reads the rectangle's values in that shape's order. -/
theorem read_window (m : Memref sig .tc sp s e) (r : Rect s) (hr : ∀ a, r.stride a = 1) (hq : r.shape.Squeezes t) {c : Dev nD}
    (f : Buf (Elt F) ((m.access r).loc (c : Thread nD τ))) :
    ((m.slice r hr).squeeze t hq).view.read (Elt F) f = moved hq.numel_eq ((m.access r).read (Elt F) f) := rfl

theorem read_moved (m : Memref sig .tc sp s e) (r : Rect s) (hr : ∀ a, r.stride a = 1) (hq : r.shape.Squeezes t) {c : Dev nD}
    (f : Buf (Elt F) ((m.access r).loc (c : Thread nD τ))) :
    (m.access r).read (Elt F) f = moved hq.numel_eq.symm (((m.slice r hr).squeeze t hq).view.read (Elt F) f) := by
  rw [read_window]
  funext j
  unfold moved
  rw [Shape.reshapeEquiv_reshapeEquiv, Shape.reshapeEquiv_self]

theorem moved_moved {α : Type} {s t v : Shape} (h : t.numel = s.numel) (h' : v.numel = t.numel) (X : s.Idx → α) :
    moved h' (moved h X) = moved (h'.trans h) X := by
  funext j; unfold moved; rw [Shape.reshapeEquiv_reshapeEquiv]

end Part

/-- What arrives in a window makes its rectangle read the values sent, in its own order. -/
theorem part_arrive (c c' : Dev nD) {sp sp' : Space} {s s' t : Shape} {e : EltTy} {m : Memref sig .tc sp s e} {r : Rect s} {hr : ∀ a, r.stride a = 1}
    {hq : r.shape.Squeezes t} {m' : Memref sig .tc sp' s' e} {r' : Rect s'} {hr' : ∀ a, r'.stride a = 1} {hq' : r'.shape.Squeezes t}
    {X : r.shape.Idx → Elt F e} (fs : Buf (Elt F) ((m.access r).loc (c : Thread nD τ))) (hfs : (m.access r).read (Elt F) fs = X)
    (fd : Buf (Elt F) ((m'.access r').loc (c' : Thread nD τ))) :
    (((m'.slice r' hr').squeeze t hq').view.loc (c' : Thread nD τ) ↦[((m'.slice r' hr').squeeze t hq').view.set]{fullShare}
        (((m'.slice r' hr').squeeze t hq').view.write (Elt F) fd (((m.slice r hr).squeeze t hq).view.read (Elt F) fs) Finset.univ) : sProp 𝕄)
      ⊢ part c' m' r' fullShare (moved (hq'.numel_eq.symm.trans hq.numel_eq) X) := by
  have e2 : ((m'.slice r' hr').squeeze t hq').view.set = (m'.access r').set := Memref.set_view_squeeze ..
  rw [e2]
  unfold part
  iintro Hd
  iexists _
  isplitr
  rotate_left
  · iexact Hd
  ipureintro
  refine (read_moved m' r' hr' hq' (c := c') _).trans ?_
  rw [View.read_write_univ, read_window (c := c), hfs, moved_moved]

/-- A rectangle's window held is the rectangle held at what it reads. -/
theorem part_intro (c : Dev nD) {sp : Space} {s t : Shape} {e : EltTy} {m : Memref sig .tc sp s e} {r : Rect s} {hr : ∀ a, r.stride a = 1}
    {hq : r.shape.Squeezes t} {q : PosShare TreeShare} {X : r.shape.Idx → Elt F e} (fs : Buf (Elt F) ((m.access r).loc (c : Thread nD τ)))
    (hfs : (m.access r).read (Elt F) fs = X) :
    (((m.slice r hr).squeeze t hq).view.loc (c : Thread nD τ) ↦[((m.slice r hr).squeeze t hq).view.set]{q} fs : sProp 𝕄) ⊢ part c m r q X := by
  have e1 : ((m.slice r hr).squeeze t hq).view.set = (m.access r).set := Memref.set_view_squeeze ..
  rw [e1]
  unfold part
  iintro Hs
  iexists fs
  isplitr; · ipureintro; exact hfs
  iexact Hs

section Moves

variable {sp sp' : Space} {s s' t : Shape} {e : EltTy}

/-- A copy within the device. -/
theorem part_copy (Rd : Rounds.Schedule (GSem nD τ sig) (Fin 4) (MT nD τ sig Unit (Elt F) ℕ UU ℕ)) (c : Dev nD) {m : Memref sig .tc sp s e} {r : Rect s} {hr : ∀ a, r.stride a = 1} {hq : r.shape.Squeezes t}
    {m' : Memref sig .tc sp' s' e} {r' : Rect s'} {hr' : ∀ a, r'.stride a = 1} {hq' : r'.shape.Squeezes t} {sem : SemLoc sig}
    {hsrc : ((m.slice r hr).squeeze t hq).view.WordExact} {hdst : ((m'.slice r' hr').squeeze t hq').view.WordExact}
    {hsem : DmaTarget.Typed (nD := nD) sp sem (DmaTarget.here (p := (c : Thread nD τ).2) ((m'.slice r' hr').squeeze t hq'))}
    {k : PUnit → Pg F} {Q : PUnit.{1} → sProp 𝕄} {κ : ℕ} {d : Fin 4} (hd : d ∈ Rd.duties ((c : Thread nD τ), sem) 0) (N : ℕ)
    (hN : ((m'.slice r' hr').squeeze t hq').view.amount sem = N) (hk : Rd.amount ((c : Thread nD τ), sem) 0 d = N)
    (q : PosShare TreeShare) (X : r.shape.Idx → Elt F e)
    (hpay : iprop(part c m' r' fullShare (moved (hq'.numel_eq.symm.trans hq.numel_eq) X) ∗ part c m r q X)
      ⊢ Rd.payload ((c : Thread nD τ), sem) 0 d) :
    iprop(cellInv ER Rd κ ((c : Thread nD τ), sem) ∗ part c m r q X ∗ hole (F := F) c m' r'
        ∗ dutyTok ER ((c : Thread nD τ), sem) 0 d ∗ reached ER ((c : Thread nD τ), sem) 0)
      ⊢ iprop((cred (tallyAt ((c : Thread nD τ), sem) () N) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ((m.slice r hr).squeeze t hq) (.here ((m'.slice r' hr').squeeze t hq')) sem hsrc hdst hsem) k) Q) := by
  have e1 : ((m.slice r hr).squeeze t hq).view.set = (m.access r).set := Memref.set_view_squeeze ..
  have e2 : ((m'.slice r' hr').squeeze t hq').view.set = (m'.access r').set := Memref.set_view_squeeze ..
  unfold hole
  conv_lhs => unfold part
  iintro ⟨HI, ⟨%fs, %hfs, Hs⟩, ⟨%Y, %fd, -, Hd⟩, Ht, Hr⟩
  iapply (Rounds.wp_copy_pointsTo 𝒱₀ ER Rd (c : Thread nD τ) none (src := (m.slice r hr).squeeze t hq) (dst := (m'.slice r' hr').squeeze t hq')
    (q := q) (fs := fs) (fd := fd) (κ := κ) hd () N hN hk ((BI.sep_mono (part_arrive c c fs hfs fd) (part_intro c fs hfs)).trans hpay))
  rw [e1, e2]
  isplitl [HI]; · iexact HI
  isplitl [Hs]; · iexact Hs
  isplitl [Hd]; · iexact Hd
  isplitl [Ht]; · iexact Ht
  iexact Hr

/-- A send to device `c'`. -/
theorem part_send (Rd : Rounds.Schedule (GSem nD τ sig) (Fin 4) (MT nD τ sig Unit (Elt F) ℕ UU ℕ)) (c c' : Dev nD) {m : Memref sig .tc sp s e} {r : Rect s} {hr : ∀ a, r.stride a = 1} {hq : r.shape.Squeezes t}
    {m' : Memref sig .tc sp' s' e} {r' : Rect s'} {hr' : ∀ a, r'.stride a = 1} {hq' : r'.shape.Squeezes t} {sS sem : SemLoc sig}
    {hsc : ((m'.slice r' hr').squeeze t hq').view.ref.isScScratch = false}
    {hsrc : ((m.slice r hr).squeeze t hq).view.WordExact} {hdst : ((m'.slice r' hr').squeeze t hq').view.WordExact}
    {hsem : DmaTarget.Typed sp sem (.remote (Dev.tc c' : Thread nD τ) ((m'.slice r' hr').squeeze t hq') sS hsc)}
    {k : PUnit → Pg F} {Q : PUnit.{1} → sProp 𝕄} {κ₁ κ₂ : ℕ} {d₁ d₂ : Fin 4}
    (hd₁ : d₁ ∈ Rd.duties ((c : Thread nD τ), sS) 0) (hd₂ : d₂ ∈ Rd.duties ((c' : Thread nD τ), sem) 0) (N : ℕ)
    (hN : ((m'.slice r' hr').squeeze t hq').view.amount sem = N)
    (hk₁ : Rd.amount ((c : Thread nD τ), sS) 0 d₁ = N) (hk₂ : Rd.amount ((c' : Thread nD τ), sem) 0 d₂ = N)
    {O₀ : CellTallies nD τ sig Unit} (O : CellTallies nD τ sig Unit) (hO : O₀ = O + tallyAt ((c' : Thread nD τ), sem) () N) {W : Waits sig Unit}
    (q : PosShare TreeShare) (X : r.shape.Idx → Elt F e)
    (hpay₁ : part c m r q X ⊢ Rd.payload ((c : Thread nD τ), sS) 0 d₁)
    (hpay₂ : part c' m' r' fullShare (moved (hq'.numel_eq.symm.trans hq.numel_eq) X) ⊢ Rd.payload ((c' : Thread nD τ), sem) 0 d₂) :
    iprop(cellInv ER Rd κ₁ ((c : Thread nD τ), sS) ∗ cellInv ER Rd κ₂ ((c' : Thread nD τ), sem) ∗ part c m r q X ∗ hole (F := F) c' m' r'
        ∗ owes (c : Thread nD τ) O₀ W
        ∗ dutyTok ER ((c : Thread nD τ), sS) 0 d₁ ∗ reached ER ((c : Thread nD τ), sS) 0
        ∗ dutyTok ER ((c' : Thread nD τ), sem) 0 d₂ ∗ reached ER ((c' : Thread nD τ), sem) 0)
      ⊢ iprop(((cred (tallyAt ((c : Thread nD τ), sS) () N) ∗ owes (c : Thread nD τ) O W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ((m.slice r hr).squeeze t hq) (.remote (Dev.tc c' : Thread nD τ) ((m'.slice r' hr').squeeze t hq') sS hsc) sem hsrc hdst hsem) k) Q) := by
  have e1 : ((m.slice r hr).squeeze t hq).view.set = (m.access r).set := Memref.set_view_squeeze ..
  have e2 : ((m'.slice r' hr').squeeze t hq').view.set = (m'.access r').set := Memref.set_view_squeeze ..
  unfold hole
  conv_lhs => unfold part
  iintro ⟨HI, HI', ⟨%fs, %hfs, Hs⟩, ⟨%Y, %fd, -, Hd⟩, HO, Ht, Hr, Ht', Hr'⟩
  iapply (Rounds.wp_send_pointsTo 𝒱₀ ER Rd (c : Thread nD τ) none (c' := (Dev.tc c' : Thread nD τ)) (src := (m.slice r hr).squeeze t hq)
    (dst := (m'.slice r' hr').squeeze t hq')
    (q := q) (fs := fs) (fd := fd) (κ₁ := κ₁) (κ₂ := κ₂) hd₁ hd₂ () () N hN hk₁ hk₂ O hO (W := W) ((part_intro c fs hfs).trans hpay₁) ((part_arrive c c' fs hfs fd).trans hpay₂))
  rw [e1, e2]
  isplitl [HI]; · iexact HI
  isplitl [HI']; · iexact HI'
  isplitl [Hs]; · iexact Hs
  isplitl [Hd]; · iexact Hd
  isplitl [HO]; · iexact HO
  isplitl [Ht]; · iexact Ht
  isplitl [Hr]; · iexact Hr
  isplitl [Ht']; · iexact Ht'
  iexact Hr'

end Moves

end Cert.Attn

end
-- ==== Proof.Pieces.lean ====
module

public import proofs.«01_k».proof.Proof.Parts
public import Idealize.ShloMosaic.Lib.Pipeline.BigSepL

@[expose] public section

/-! # Buffers cut into rectangles

Each buffer is cut into rectangles, one for each unit, head or result block, that meet no other and leave nothing out;
holding the buffer is holding each of them. -/

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem eq_of {M : Type} [URA M] {P Q : sProp M} (h₁ : P ⊢ Q) (h₂ : Q ⊢ P) : P = Q := equiv_iff.mp ⟨h₁, h₂⟩

/-! ## One function on all the rectangles -/

/-- The values of a family of rectangles together. -/
def glue {T : Type} {s : Shape} {α : Type} [Nonempty α] (r : T → Rect s) (X : (t : T) → (r t).shape.Idx → α) : s.Idx → α := fun x =>
  open Classical in if h : ∃ p : (t : T) × (r t).shape.Idx, (r p.1).emb p.2 = x then X h.choose.1 h.choose.2 else Classical.arbitrary α

theorem glue_emb {T : Type} {s : Shape} {α : Type} [Nonempty α] (r : T → Rect s) (hd : ∀ t t', t ≠ t' → Disjoint (r t).set (r t').set)
    (X : (t : T) → (r t).shape.Idx → α) (t : T) (j : (r t).shape.Idx) : glue r X ((r t).emb j) = X t j := by
  have h : ∃ p : (t : T) × (r t).shape.Idx, (r p.1).emb p.2 = (r t).emb j := ⟨⟨t, j⟩, rfl⟩
  unfold glue
  rw [dif_pos h]
  have hc := h.choose_spec
  generalize h.choose = p at hc
  obtain ⟨t', j'⟩ := p
  by_cases e : t' = t
  · subst e
    exact congrArg (X t') ((r t').emb.injective hc)
  · exfalso
    refine absurd (?_ : (r t).emb j ∈ (r t).set) (Finset.disjoint_left.mp (hd t' t e) ?_)
    · rw [← Rect.map_emb_univ]; exact Finset.mem_map_of_mem _ (Finset.mem_univ _)
    · rw [← hc, ← Rect.map_emb_univ]; exact Finset.mem_map_of_mem _ (Finset.mem_univ _)

/-! ## Rectangles of one size -/

section Unit
variable {T : Type} [Fintype T] {s : Shape} {off : T → Fin s.rank → ℕ} {sz : Fin s.rank → ℕ} {inb : ∀ t a, off t a + sz a ≤ s.size a}

theorem disjoint_of_sep (h : ∀ t t', t ≠ t' → ∃ a, off t a + sz a ≤ off t' a ∨ off t' a + sz a ≤ off t a) :
    ∀ t t', t ≠ t' → Disjoint (Rect.unit (off t) sz (inb t)).set (Rect.unit (off t') sz (inb t')).set :=
  fun t t' ne => let ⟨a, ha⟩ := h t t' ne; Rect.unit_disjoint a ha

theorem cover_of_mem (h : ∀ x : s.Idx, ∃ t, ∀ a, off t a ≤ x a ∧ (x a : ℕ) < off t a + sz a) :
    (Finset.univ : Finset T).biUnion (fun t => (Rect.unit (off t) sz (inb t)).set) = Finset.univ :=
  Finset.eq_univ_of_forall fun x => let ⟨t, ht⟩ := h x
    Finset.mem_biUnion.mpr ⟨t, Finset.mem_univ _, Rect.mem_set_unit.mpr ht⟩
end Unit

theorem unit_at : ∀ (b : Fin 2) (h : Fin 16), ∃ u : Fin 4, (ub u).val = b.val ∧ uh u ≤ h.val ∧ h.val < uh u + 8 := by decide
theorem out_at : ∀ (d : Dev nD) (b : Fin 8) (h : Fin 16), ∃ t : Fin 4 × Fin 4, row d t.1 t.2 = b.val ∧ uh t.2 ≤ h.val ∧ h.val < uh t.2 + 8 := by
  decide +kernel

theorem disj_dst : ∀ t t' : Fin 2 × Fin 16, t ≠ t' → Disjoint (rDst t.1 t.2).set (rDst t'.1 t'.2).set :=
  disjoint_of_sep (inb := fun t => inb_dst t.1 t.2) fun t t' ne => by
    by_cases h : t.1 = t'.1
    · have h2 : t.2.val ≠ t'.2.val := fun e => ne (Prod.ext h (Fin.ext e))
      exact ⟨1, by simp; omega⟩
    · have h2 : t.1.val ≠ t'.1.val := fun e => h (Fin.ext e)
      exact ⟨0, by simp; omega⟩
theorem cover_dst : (Finset.univ : Finset (Fin 2 × Fin 16)).biUnion (fun t => (rDst t.1 t.2).set) = Finset.univ :=
  cover_of_mem (inb := fun t => inb_dst t.1 t.2) fun x => ⟨((x 0 : Fin 2), (x 1 : Fin 16)), fun a => by
    fin_cases a
    · exact ⟨le_refl _, Nat.lt_succ_self _⟩
    · exact ⟨le_refl _, Nat.lt_succ_self _⟩
    · exact ⟨Nat.zero_le _, (x 2).isLt.trans_eq (Nat.zero_add _).symm⟩
    · exact ⟨Nat.zero_le _, (x 3).isLt.trans_eq (Nat.zero_add _).symm⟩⟩

theorem disj_o : ∀ u u' : Fin 4, u ≠ u' → Disjoint (rO u).set (rO u').set := disjoint_of_sep (inb := inb_o) (by decide)
theorem cover_o : (Finset.univ : Finset (Fin 4)).biUnion (fun u => (rO u).set) = Finset.univ :=
  cover_of_mem (inb := inb_o) fun x => by
    obtain ⟨u, h0, h1, h2⟩ := unit_at (x 0 : Fin 2) (x 1 : Fin 16)
    refine ⟨u, fun a => ?_⟩
    fin_cases a
    · exact ⟨h0.le, by show (x 0 : Fin 2).val < (ub u).val + 1; omega⟩
    · exact ⟨h1, h2⟩
    · exact ⟨Nat.zero_le _, (x 2).isLt.trans_eq (Nat.zero_add _).symm⟩
    · exact ⟨Nat.zero_le _, (x 3).isLt.trans_eq (Nat.zero_add _).symm⟩

theorem disj_l : ∀ u u' : Fin 4, u ≠ u' → Disjoint (rL u).set (rL u').set := disjoint_of_sep (inb := inb_l) (by decide)
theorem cover_l : (Finset.univ : Finset (Fin 4)).biUnion (fun u => (rL u).set) = Finset.univ :=
  cover_of_mem (inb := inb_l) fun x => by
    obtain ⟨u, h0, h1, h2⟩ := unit_at (x 0 : Fin 2) (x 1 : Fin 16)
    refine ⟨u, fun a => ?_⟩
    fin_cases a
    · exact ⟨h0.le, by show (x 0 : Fin 2).val < (ub u).val + 1; omega⟩
    · exact ⟨h1, h2⟩
    · exact ⟨Nat.zero_le _, (x 2).isLt.trans_eq (Nat.zero_add _).symm⟩

theorem disj_sf : ∀ u u' : Fin 4, u ≠ u' → Disjoint (rSF u).set (rSF u').set := disjoint_of_sep (inb := inb_sf) (by decide)
theorem cover_sf : (Finset.univ : Finset (Fin 4)).biUnion (fun u => (rSF u).set) = Finset.univ :=
  cover_of_mem (inb := inb_sf) fun x => by
    obtain ⟨u, h0, h1, h2⟩ := unit_at (x 0 : Fin 2) (x 2 : Fin 16)
    refine ⟨u, fun a => ?_⟩
    fin_cases a
    · exact ⟨h0.le, by show (x 0 : Fin 2).val < (ub u).val + 1; omega⟩
    · exact ⟨Nat.zero_le _, (x 1).isLt.trans_eq (Nat.zero_add _).symm⟩
    · exact ⟨h1, h2⟩
    · exact ⟨Nat.zero_le _, (x 3).isLt.trans_eq (Nat.zero_add _).symm⟩

theorem disj_rf : ∀ t t' : Fin 4 × Fin 3, t ≠ t' → Disjoint (rRF t.2 t.1).set (rRF t'.2 t'.1).set :=
  disjoint_of_sep (inb := fun t => inb_rf t.2 t.1) (by decide)
theorem cover_rf : (Finset.univ : Finset (Fin 4 × Fin 3)).biUnion (fun t => (rRF t.2 t.1).set) = Finset.univ :=
  cover_of_mem (inb := fun t => inb_rf t.2 t.1) fun x => by
    obtain ⟨u, h0, h1, h2⟩ := unit_at (x 1 : Fin 2) (x 3 : Fin 16)
    refine ⟨(u, (x 0 : Fin 3)), fun a => ?_⟩
    fin_cases a
    · exact ⟨le_refl _, Nat.lt_succ_self _⟩
    · exact ⟨h0.le, by show (x 1 : Fin 2).val < (ub u).val + 1; omega⟩
    · exact ⟨Nat.zero_le _, (x 2).isLt.trans_eq (Nat.zero_add _).symm⟩
    · exact ⟨h1, h2⟩
    · exact ⟨Nat.zero_le _, (x 4).isLt.trans_eq (Nat.zero_add _).symm⟩

theorem disj_out (d : Dev nD) : ∀ t t' : Fin 4 × Fin 4, t ≠ t' → Disjoint (rOut d t.1 t.2).set (rOut d t'.1 t'.2).set :=
  disjoint_of_sep (inb := fun t => inb_out d t.1 t.2) (by revert d; decide +kernel)
theorem cover_out (d : Dev nD) : (Finset.univ : Finset (Fin 4 × Fin 4)).biUnion (fun t => (rOut d t.1 t.2).set) = Finset.univ :=
  cover_of_mem (inb := fun t => inb_out d t.1 t.2) fun x => by
    obtain ⟨t, h0, h1, h2⟩ := out_at d (x 0 : Fin 8) (x 2 : Fin 16)
    refine ⟨t, fun a => ?_⟩
    fin_cases a
    · exact ⟨h0.le, by show (x 0 : Fin 8).val < row d t.1 t.2 + 1; omega⟩
    · exact ⟨Nat.zero_le _, (x 1).isLt.trans_eq (Nat.zero_add _).symm⟩
    · exact ⟨h1, h2⟩
    · exact ⟨Nat.zero_le _, (x 3).isLt.trans_eq (Nat.zero_add _).symm⟩

theorem disj_src (d : Dev nD) : ∀ t t' : Fin 2 × Fin 16, t ≠ t' → Disjoint (rSrc d t.1 t.2).set (rSrc d t'.1 t'.2).set :=
  disjoint_of_sep (inb := fun t => inb_src d t.1 t.2) fun t t' ne => by
    by_cases h : t.1 = t'.1
    · have h2 : t.2.val ≠ t'.2.val := fun e => ne (Prod.ext h (Fin.ext e))
      exact ⟨2, by simp; omega⟩
    · have h2 : ∀ (d : Dev nD) (b b' : Fin 2), b ≠ b' → k0_off1 d (BitVec.ofNat 32 b.val) 0 + 1 ≤ k0_off1 d (BitVec.ofNat 32 b'.val) 0
          ∨ k0_off1 d (BitVec.ofNat 32 b'.val) 0 + 1 ≤ k0_off1 d (BitVec.ofNat 32 b.val) 0 := by decide +kernel
      exact ⟨0, h2 d _ _ h⟩

/-! ## Holding them -/

section Hold
variable {sp : Space} {s : Shape} {e : EltTy}

/-- A rectangle held at what the buffer reads there of `g` is its elements held at `g`. -/
theorem part_read (c : Dev nD) (m : Memref sig .tc sp s e) (r : Rect s) (hr : ∀ a, r.stride a = 1) (q : PosShare TreeShare)
    (g : m.view.ty.Contents (Elt F)) :
    (part c m r q (fun j => m.view.read (Elt F) g (r.emb j)) : sProp 𝕄) = (m.view.loc (c : Thread nD τ) ↦[(m.view.slice r).set]{q} g) :=
  owns_slice_read (c : Thread nD τ) m q r hr g

/-- A rectangle held is its elements held at some contents. -/
theorem hole_eq (c : Dev nD) (m : Memref sig .tc sp s e) (r : Rect s) :
    (hole c m r : sProp 𝕄) = iprop(∃ g : Buf (Elt F) (m.view.loc (c : Thread nD τ)), m.view.loc (c : Thread nD τ) ↦[(m.view.slice r).set]{fullShare} g) := by
  refine eq_of ?_ ?_
  · unfold hole part
    iintro ⟨%X, %g, -, H⟩
    iexists g; iexact H
  · unfold hole part
    iintro ⟨%g, H⟩
    iexists _; iexists g
    isplitr; · ipureintro; rfl
    iexact H

variable {T : Type} [Fintype T] [DecidableEq T] (b : Ref sig .tc) (c : Dev nD) (r : T → Rect b.ty.shape) (hr : ∀ t a, (r t).stride a = 1)
  (hd : ∀ t t', t ≠ t' → Disjoint (r t).set (r t').set)
  (hcov : (Finset.univ : Finset T).biUnion (fun t => (r t).set) = Finset.univ)
include hr hd hcov

/-- A whole buffer held is its rectangles held, -/
theorem holes_of_whole :
    (iprop(∃ f : Buf (Elt F) ((c : Thread nD τ).loc b), ((c : Thread nD τ).loc b) ↦{fullShare} f) : sProp 𝕄)
      ⊢ bigSep Finset.univ fun t => hole c (Memref.whole b) (r t) := by
  iintro ⟨%f, H⟩
  ihave H' := (show (((c : Thread nD τ).loc b) ↦{fullShare} f : sProp 𝕄)
      ⊢ ((Memref.whole b).view.loc (c : Thread nD τ) ↦[(Memref.whole b).view.set]{fullShare} f) from by
    rw [show (Memref.whole b).view.set = Finset.univ from View.set_whole b]) $$ H
  ihave H2 := (show ((Memref.whole b).view.loc (c : Thread nD τ) ↦[(Memref.whole b).view.set]{fullShare} f : sProp 𝕄)
      ⊢ bigSep Finset.univ fun t => part c (Memref.whole b) (r t) fullShare (fun j => f ((r t).emb j)) from
    Entails.of_eq (pointsTo_rects (c : Thread nD τ) (Memref.whole b) fullShare r hr hd hcov f)) $$ H'
  iapply (show (bigSep Finset.univ fun t => part c (Memref.whole b) (r t) fullShare (fun j => f ((r t).emb j)) : sProp 𝕄)
      ⊢ bigSep Finset.univ fun t => hole c (Memref.whole b) (r t) from bigSep_mono fun t _ => hole_of c (Memref.whole b) (r t) _) $$ H2

/-- and its rectangles held at `X` the buffer held at them all. -/
theorem whole_of_parts [Nonempty (Elt F b.ty.elt)] [∀ e, Nonempty (Elt F e)] (X : (t : T) → (r t).shape.Idx → Elt F b.ty.elt) :
    (bigSep Finset.univ fun t => part c (Memref.whole b) (r t) fullShare (X t) : sProp 𝕄)
      ⊢ (((c : Thread nD τ).loc b) ↦{fullShare} (glue r X : b.ty.shape.Idx → Elt F b.ty.elt)) := by
  have h : (bigSep Finset.univ fun t => part c (Memref.whole b) (r t) fullShare (X t) : sProp 𝕄)
      ⊢ owns (c : Thread nD τ) (Memref.whole b) fullShare (glue r X) := by
    refine BIBase.Entails.trans ?_ (owns_of_rects (c : Thread nD τ) (Memref.whole b) fullShare r hr hd hcov (glue r X))
    refine bigSep_mono fun t _ => ?_
    rw [show (fun j => glue r X ((r t).emb j)) = X t from funext fun j => glue_emb r hd X t j]
    exact BI.Entails.refl _
  refine h.trans ?_
  rw [owns_whole_eq]
  iintro ⟨%f, %hf, H⟩
  rw [← hf]
  iexact H

/-- Its rectangles held the buffer held. -/
theorem whole_of_holes [∀ e, Nonempty (Elt F e)] :
    (bigSep Finset.univ fun t => hole c (Memref.whole b) (r t) : sProp 𝕄)
      ⊢ iprop(∃ f : Buf (Elt F) ((c : Thread nD τ).loc b), ((c : Thread nD τ).loc b) ↦{fullShare} f) := by
  rw [bigSep_congr (fun t _ => hole_eq c (Memref.whole b) (r t))]
  iintro H
  ihave H' := (BI.bigSep_exists_pi Finset.univ (fun (t : T) (g : Buf (Elt F) ((Memref.whole b).view.loc (c : Thread nD τ))) =>
    ((Memref.whole b).view.loc (c : Thread nD τ) ↦[((Memref.whole b).view.slice (r t)).set]{fullShare} g : sProp 𝕄))) $$ H
  icases H' with ⟨%fs, H⟩
  ihave H2 := (show (bigSep Finset.univ fun t => ((Memref.whole b).view.loc (c : Thread nD τ) ↦[((Memref.whole b).view.slice (r t)).set]{fullShare} fs t : sProp 𝕄))
      ⊢ bigSep Finset.univ fun t => part c (Memref.whole b) (r t) fullShare (fun j => fs t ((r t).emb j)) from
    Entails.of_eq (bigSep_congr fun t _ => (part_read c (Memref.whole b) (r t) (hr t) fullShare (fs t)).symm)) $$ H
  ihave H3 := (whole_of_parts b c r hr hd hcov (fun t j => fs t ((r t).emb j))) $$ H2
  iexists _; iexact H3

end Hold

/-! ## Lists -/

theorem bigSepL_sep {M : Type} [URA M] {I : Type} (l : List I) (Φ Ψ : I → sProp M) :
    bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    refine eq_of ?_ ?_
    · iintro ⟨⟨H1, H2⟩, H3, H4⟩
      isplitl [H1 H3]
      · isplitl [H1] <;> iassumption
      · isplitl [H2] <;> iassumption
    · iintro ⟨⟨H1, H2⟩, H3, H4⟩
      isplitl [H1 H3]
      · isplitl [H1] <;> iassumption
      · isplitl [H2] <;> iassumption

theorem bigSepL_flatMap {M : Type} [URA M] {I J : Type} (l : List I) (f : I → List J) (Φ : J → sProp M) :
    bigSepL (l.flatMap f) Φ = bigSepL l fun i => bigSepL (f i) Φ := by
  induction l with
  | nil => rfl
  | cons i l ih => rw [List.flatMap_cons, bigSepL_append, bigSepL_cons', ih]

end Cert.Attn

end
-- ==== Proof.Protocol.lean ====
module

public import proofs.«01_k».proof.Proof.Pieces

@[expose] public section

/-! # What the devices tell each other

Every semaphore of the kernel is used once. A head's semaphore brings the head's keys or values to their buffer; the
barrier brings the right to write four neighbours' landing windows; the first exchange's semaphores bring a partial result
and its denominator from across the axis; the second exchange's bring a finished unit from each of the three others. -/

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

instance float_nonempty (φ : FTy) : Nonempty (F φ) := ⟨FloatOps.ofBits φ 0⟩
instance elt_nonempty : ∀ e : EltTy, Nonempty (Elt F e)
  | .i1 => ⟨(0 : BitVec _)⟩ | .i4 => ⟨(0 : BitVec _)⟩ | .i8 => ⟨(0 : BitVec _)⟩ | .i16 => ⟨(0 : BitVec _)⟩ | .i32 => ⟨(0 : BitVec _)⟩
  | .i64 => ⟨(0 : BitVec _)⟩
  | .fp8e4m3 => ⟨FloatOps.ofBits _ 0⟩ | .fp8e5m2 => ⟨FloatOps.ofBits _ 0⟩ | .bf16 => ⟨FloatOps.ofBits _ 0⟩ | .f16 => ⟨FloatOps.ofBits _ 0⟩
  | .f32 => ⟨FloatOps.ofBits _ 0⟩

variable (m : (ℓ : Loc nD τ sig) → Buf (Elt F) ℓ)

/-! ## Contents -/

section Contents
variable (c : Dev nD)

/-- The queries as staged, and a device's keys (`0`) and values (`1`). -/
def xQ : S8x8x16x128.Idx → Elt F .f32 := (win0_0.blk (0 : Fin 1)).view.read (Elt F) (m ((c : Thread nD τ).loc main_arg0))
def xS (j : Fin 2) : S8x1024x16x128.Idx → Elt F .f32 := (mSrc j).view.read (Elt F) (m ((mSrc j).view.loc (c : Thread nD τ)))

/-- A head of them as it stands in main memory, and as it lands; the buffer when all have landed; a unit's rectangle of it. -/
def xH (x : Fin 2 × Fin 2 × Fin 16) : S1x1024x1x128.Idx → Elt F .f32 := fun i => xS m c x.1 ((rSrc c x.2.1 x.2.2).emb i)
def kvH (x : Fin 2 × Fin 2 × Fin 16) : S1x1x1024x128.Idx → Elt F .f32 :=
  moved (squeezes_S1x1x1024x128_S1024x128.numel_eq.symm.trans squeezes_S1x1024x1x128_S1024x128.numel_eq) (xH m c x)
def kv (j : Fin 2) : S2x16x1024x128.Idx → Elt F .f32 := glue (fun t : Fin 2 × Fin 16 => rDst t.1 t.2) fun t => kvH m c (j, t.1, t.2)
def kU (j : Fin 2) (u : Fin 4) : S1x8x1024x128.Idx → Elt F .f32 := fun i => kv m c j ((rKV u).emb i)

/-- The device's own two batches of queries; a unit's partial result, its denominator, the partial result as sent. -/
def qO : FVec F S2x16x8x128 .f32 := qv fun i => xQ m c ((rQ c).emb i)
def pO (u : Fin 4) : FVec F S1x8x8x128 .f32 := oSt (qO m c) u (kU m c 0 u) (kU m c 1 u)
def pL (u : Fin 4) : FVec F S1x8x8 .f32 := lSt (qO m c) u (kU m c 0 u)
def pS (u : Fin 4) : FVec F S1x8x8x128 .bf16 := oSd (qO m c) u (kU m c 0 u) (kU m c 1 u)
/-- A finished unit, and as sent; as received in slot `i`; the blocks of the result; the result. -/
def fO (u : Fin 4) : FVec F S1x8x8x128 .f32 := finSt (pO m c u) (pS m (nb c 0) u) (pL m c u) (pL m (nb c 0) u)
def fS (u : Fin 4) : FVec F S1x8x8x128 .bf16 := finSd (pO m c u) (pS m (nb c 0) u) (pL m c u) (pL m (nb c 0) u)
def rV (u : Fin 4) (i : Fin 3) : S1x1x8x8x128.Idx → Elt F .bf16 :=
  moved (squeezes_S1x1x8x8x128_S8x8x128.numel_eq.symm.trans squeezes_S1x8x8x128_S8x8x128.numel_eq) (fS m (nb c i.succ) u)
def outX (t : Fin 4 × Fin 4) : S1x8x8x128.Idx → Elt F .f32 := Fin.cases (fO m c t.2) (fun i => widen (rV m c t.2 i)) t.1
def outV : S8x8x16x128.Idx → Elt F .f32 := glue (fun t : Fin 4 × Fin 4 => rOut c t.1 t.2) (outX m c)
end Contents

/-! ## Cells -/

/-- The kernel's own semaphores: a head's; the first exchange's (unit; result or denominator; sending or receiving); the
    second's (unit, slot), sending and receiving. -/
abbrev Own : Type := (Fin 2 × Fin 2 × Fin 16) ⊕ (Fin 4 × Fin 2 × Fin 2) ⊕ (Fin 4 × Fin 3) ⊕ (Fin 4 × Fin 3)
@[match_pattern] abbrev Own.ld (x : Fin 2 × Fin 2 × Fin 16) : Own := .inl x
@[match_pattern] abbrev Own.p1 (u : Fin 4) (t s : Fin 2) : Own := .inr (.inl (u, t, s))
@[match_pattern] abbrev Own.ps (u : Fin 4) (i : Fin 3) : Own := .inr (.inr (.inl (u, i)))
@[match_pattern] abbrev Own.pr (u : Fin 4) (i : Fin 3) : Own := .inr (.inr (.inr (u, i)))
/-- Those and the barrier. -/
abbrev Cl : Type := Unit ⊕ Own

def osem : Own → SemLoc sig
  | .ld x => .dma (sLd x.1 x.2.1 x.2.2)
  | .p1 u t s => .dma (sP1 t u s)
  | .ps u i => .dma (sP2s i u)
  | .pr u i => .dma (sP2r i u)
def csem : Cl → SemLoc sig
  | .inl _ => .reg sBar
  | .inr o => osem o

instance sem_eq : DecidableEq (SemLoc sig) := inferInstance
instance own_eq : DecidableEq Own := inferInstance
instance own_all : Fintype Own := inferInstance

theorem csem_injective : Function.Injective csem := by
  have h : ∀ a b : Own, osem a = osem b → a = b := by decide +kernel
  have hb : ∀ a : Own, osem a ≠ .reg sBar := by decide +kernel
  rintro (⟨⟩ | a) (⟨⟩ | b) e
  · rfl
  · exact absurd e.symm (hb b)
  · exact absurd e (hb a)
  · exact congrArg _ (h a b e)

/-- A device's cell. -/
abbrev kc (c : Dev nD) (k : Cl) : GSem nD τ sig := ((c : Thread nD τ), csem k)

theorem kc_inj {c c' : Dev nD} {k k' : Cl} : kc c k = kc c' k' ↔ c = c' ∧ k = k' :=
  ⟨fun h => ⟨congrArg (fun g : GSem nD τ sig => g.1.1) h, csem_injective (congrArg Prod.snd h)⟩, fun h => by rw [h.1, h.2]⟩

/-- Which semaphore it is. -/
def dec (s : SemLoc sig) : Option Cl := open Classical in if h : ∃ k, csem k = s then some h.choose else none
theorem dec_csem (k : Cl) : dec (csem k) = some k := by
  have h : ∃ k', csem k' = csem k := ⟨k, rfl⟩
  unfold dec; rw [dif_pos h]; exact congrArg some (csem_injective h.choose_spec)
theorem dec_eq {s : SemLoc sig} {k : Cl} (h : dec s = some k) : s = csem k := by
  unfold dec at h
  split at h
  · rename_i h'; rw [← h'.choose_spec]; exact congrArg csem (Option.some.inj h)
  · cases h

/-- What a duty of a semaphore adds to it, and when it is waited for: heads and what is sent first, then the barrier, the
    first exchange, the second. -/
def amt : Cl → ℕ
  | .inl _ => 1
  | .inr (.ld x) => (wDst x.1 x.2.1 x.2.2).view.dmaCredit
  | .inr (.p1 u 0 _) => (wO mRO u).view.dmaCredit
  | .inr (.p1 u 1 _) => (wL mRL u).view.dmaCredit
  | .inr (.ps u i) => (wRF i u).view.dmaCredit
  | .inr (.pr u i) => (wRF i u).view.dmaCredit
def lvl : Cl → ℕ
  | .inl _ => 1
  | .inr (.p1 _ _ 1) => 2
  | .inr (.pr _ _) => 3
  | _ => 0
/-- What a wait on it takes. -/
def need : Cl → ℕ
  | .inl _ => 4
  | .inr o => amt (.inr o)

theorem amt_pos : ∀ k : Cl, 0 < amt k := by
  rintro (⟨⟩ | x | ⟨u, t, s⟩ | ⟨u, i⟩ | ⟨u, i⟩)
  · exact Nat.one_pos
  · exact View.dmaCredit_pos _ (by decide)
  · fin_cases t
    · exact View.dmaCredit_pos _ (by decide)
    · exact View.dmaCredit_pos _ (by decide)
  · exact View.dmaCredit_pos _ (by decide)
  · exact View.dmaCredit_pos _ (by decide)

/-! ## What a duty hands over -/

/-- The shares of a finished unit lent to its three sends. -/
def sh : Fin 3 → PosShare TreeShare
  | 0 => fullShare.left
  | 1 => fullShare.right.left
  | 2 => fullShare.right.right

/-- The windows on `c` that neighbour `k` writes: across the axis, those of the first exchange; else a slot of the second. -/
def land (c : Dev nD) : Fin 4 → sProp 𝕄 :=
  Fin.cases (bigSepL units fun u => iprop(hole c mRO (rO u) ∗ hole c mRL (rL u))) fun i => bigSepL units fun u => hole c mRF (rRF i u)

def pay (c : Dev nD) (k : Cl) (d : Fin 4) : sProp 𝕄 := match k with
  | .inl _ => land (nb c d) d
  | .inr (.ld x) => iprop(part c (mDst x.1) (rDst x.2.1 x.2.2) fullShare (kvH m c x) ∗ part c (mSrc x.1) (rSrc c x.2.1 x.2.2) fullShare (xH m c x))
  | .inr (.p1 u 0 0) => part c mSO (rO u) fullShare (pS m c u)
  | .inr (.p1 u 0 1) => part c mRO (rO u) fullShare (pS m (nb c 0) u)
  | .inr (.p1 u 1 0) => part c mSL (rL u) fullShare (pL m c u)
  | .inr (.p1 u 1 1) => part c mRL (rL u) fullShare (pL m (nb c 0) u)
  | .inr (.ps u i) => part c mSF (rSF u) (sh i) (fS m c u)
  | .inr (.pr u i) => part c mRF (rRF i u) fullShare (rV m c u i)

instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => rw [show bigSepL [] Φ = iprop(emp) from rfl]; infer_instance
  | cons i l ih => rw [bigSepL_cons']; infer_instance

instance land_storable (c : Dev nD) (k : Fin 4) : BI.Storable (upEmb : UEmb _ 𝕄) (land (F := F) c k) := by
  refine Fin.cases ?_ (fun i => ?_) k
  · unfold land; rw [Fin.cases_zero]; infer_instance
  · unfold land; rw [Fin.cases_succ]; infer_instance

instance pay_storable (c : Dev nD) (k : Cl) (d : Fin 4) : BI.Storable (upEmb : UEmb _ 𝕄) (pay m c k d) := by
  unfold pay; split <;> infer_instance

/-- One round: the barrier has a duty for each neighbour, every other semaphore one. -/
def Rd : Rounds.Schedule (GSem nD τ sig) (Fin 4) (MT nD τ sig Unit (Elt F) ℕ UU ℕ) where
  duties g r := if r = 0 ∧ g.1.2 = .tc then match dec g.2 with
      | some (.inl _) => Finset.univ
      | some (.inr _) => {0}
      | none => ∅
    else ∅
  unitless _ := False
  amount g _ _ := match dec g.2 with
    | some k => amt k
    | none => 1
  payload g _ d := match dec g.2 with
    | some k => pay m g.1.1 k d
    | none => iprop(emp)
  amount_pos g _ _ _ := by
    split
    · exact amt_pos _
    · exact Nat.one_pos

instance Rd_storable (g : GSem nD τ sig) (r : ℕ) (d : Fin 4) : BI.Storable (upEmb : UEmb _ 𝕄) ((Rd m).payload g r d) := by
  show BI.Storable upEmb (match dec g.2 with | some k => pay m g.1.1 k d | none => iprop(emp))
  split <;> infer_instance

section At
variable (c : Dev nD)

theorem duties_bar : (Rd m).duties (kc c (.inl ())) 0 = Finset.univ := by
  dsimp only [Rd]; rw [if_pos ⟨rfl, rfl⟩, dec_csem]
theorem duties_own (o : Own) : (Rd m).duties (kc c (.inr o)) 0 = {0} := by
  dsimp only [Rd]; rw [if_pos ⟨rfl, rfl⟩, dec_csem]
theorem duties_later (g : GSem nD τ sig) : ∀ r, 1 ≤ r → (Rd m).duties g r = ∅ :=
  fun r hr => by dsimp only [Rd]; rw [if_neg fun h => by omega]
theorem amount_at (k : Cl) (d : Fin 4) : (Rd m).amount (kc c k) 0 d = amt k := by dsimp only [Rd]; rw [dec_csem]
theorem payload_at (k : Cl) (d : Fin 4) : (Rd m).payload (kc c k) 0 d = pay m c k d := by dsimp only [Rd]; rw [dec_csem]
theorem expect_at (k : Cl) : (Rd m).expect (kc c k) 0 = need k := by
  unfold Schedule.expect Schedule.amountOf
  rw [Finset.sum_congr rfl fun d _ => amount_at m c k d]
  rcases k with ⟨⟩ | o
  · rw [duties_bar]; rfl
  · rw [duties_own, Finset.sum_singleton]; rfl
theorem rest_bar : bigSep ((Rd m).duties (kc c (.inl ())) 0 \ ∅) (fun d => (Rd m).payload (kc c (.inl ())) 0 d)
    = bigSepL [0, 1, 2, 3] fun d : Fin 4 => land (nb c d) d := by
  rw [Finset.sdiff_empty, duties_bar, bigSep_univ_eq_bigSepL [0, 1, 2, 3] (by decide) (by decide)]
  exact congrArg (bigSepL _) (funext fun d => payload_at m c _ d)
theorem rest_own (o : Own) : bigSep ((Rd m).duties (kc c (.inr o)) 0 \ ∅) (fun d => (Rd m).payload (kc c (.inr o)) 0 d) = pay m c (.inr o) 0 := by
  rw [Finset.sdiff_empty, duties_own, bigSep_singleton, payload_at]
end At

/-! ## Debts -/

/-- What a device pays: a duty of each neighbour's barrier, and one duty for each semaphore of its own kind, on itself or
    on the neighbour it sends to. -/
abbrev Tk : Type := Fin 4 ⊕ Own
def clOf : Tk → Cl
  | .inl _ => .inl ()
  | .inr o => .inr o
def duty : Tk → Fin 4
  | .inl k => k
  | .inr _ => 0
def via : Tk → Dev nD → Dev nD
  | .inl k => fun c => nb c k
  | .inr (.p1 _ _ 1) => fun c => nb c 0
  | .inr (.pr _ i) => fun c => nb c i.succ
  | _ => fun c => c
theorem via_via : ∀ (x : Tk) (c : Dev nD), via x (via x c) = c := by
  rintro (k | x | ⟨u, t, s⟩ | ⟨u, i⟩ | ⟨u, i⟩) c
  · exact nb_nb k c
  · rfl
  · fin_cases s
    · rfl
    · exact nb_nb 0 c
  · rfl
  · exact nb_nb i.succ c

abbrev tgt (c : Dev nD) (x : Tk) : GSem nD τ sig := kc (via x c) (clOf x)

def owedL (c : Dev nD) : List Tk → CellTallies nD τ sig Unit
  | [] => 0
  | x :: l => owedL c l + tallyAt (tgt c x) () (amt (clOf x))

def duesB : List Tk := [0, 1, 2, 3].map .inl
def dues1 (u : Fin 4) : List Tk := [.inr (.p1 u 0 1), .inr (.p1 u 1 1)]
def dues2 (u : Fin 4) : List Tk := [0, 1, 2].map fun i => .inr (.pr u i)
def dues : List Tk := duesB ++ (units.flatMap dues1 ++ units.flatMap dues2)

theorem owed_pos {c : Dev nD} {l : List Tk} {g : GSem nD τ sig} {u : Unit} (h : 0 < owedL c l g u) : ∃ x ∈ l, g = tgt c x := by
  induction l with
  | nil => exact absurd h (Nat.lt_irrefl 0)
  | cons x l ih =>
    unfold owedL at h
    rw [Pi.add_apply, Finsupp.add_apply, tallyAt_apply] at h
    by_cases e : g = tgt c x
    · exact ⟨x, List.mem_cons_self, e⟩
    · rw [if_neg fun h' => e h'.1, Nat.add_zero] at h
      obtain ⟨y, hy, hg⟩ := ih h
      exact ⟨y, List.mem_cons_of_mem _ hy, hg⟩

def L (g : GSem nD τ sig) : Finset Unit := if g.1.2 = .tc then {()} else ∅
def lv (g : GSem nD τ sig) (_ : Unit) : ℕ := match dec g.2 with
  | some k => lvl k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Cl) (u : Unit) : lv (kc c k) u = lvl k := by dsimp only [lv]; rw [dec_csem]

/-- A wait on a semaphore below everything owed is allowed. -/
theorem mayWait (c : Dev nD) (s : SemLoc sig) (n : ℕ) (hs : lv ((c : Thread nD τ), s) () ≤ n) (l : List Tk) (hl : ∀ x ∈ l, n < lvl (clOf x)) :
    (levAts L lv : sProp 𝕄) ⊢ MayWait (c : Thread nD τ) s () (owedL c l) :=
  MayOwe.of_cut (L := L) (lev := lv) n (fun p hp => by rw [Finset.mem_singleton.mp hp, L_tc]; exact Finset.mem_singleton_self _)
    (fun g u hg => by obtain ⟨x, -, rfl⟩ := owed_pos hg; exact Finset.mem_singleton_self _)
    (fun p hp => by rw [Finset.mem_singleton.mp hp]; exact hs)
    (fun g u hg => by obtain ⟨x, hx, rfl⟩ := owed_pos hg; rw [lv_at]; exact hl x hx)

end Cert.Attn

end
-- ==== Proof.Flow.lean ====
module

public import proofs.«01_k».proof.Proof.Protocol

@[expose] public section

/-! # Running a device's text: the pieces

What every step keeps is the cells' records and the debts still to be paid. A wait on one of the device's own cells gives
back what the cell's duty handed over, and the counter at zero. A sequence runs by running each of its members. -/

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Device `c` runs `k` to `Q`. -/
abbrev runs (c : Dev nD) (k : Pg F) (Q : PUnit.{1} → sProp 𝕄) : sProp 𝕄 := wp frame (wpE (defs₀ (F := F)) 𝒱₀ (c : Thread nD τ) none) Set.univ k Q

/-- Every cell's invariant and that it has started, and the waits' order. -/
def recs (K : Dev nD × Cl → ℕ) : sProp 𝕄 :=
  iprop((bigSep Finset.univ fun ck : Dev nD × Cl => cellInv ER (Rd m) (K ck) (kc ck.1 ck.2))
    ∗ (bigSep Finset.univ fun ck : Dev nD × Cl => reached ER (kc ck.1 ck.2) 0) ∗ levAts L lv)

instance recs_persistent (K : Dev nD × Cl → ℕ) : BI.Persistent (recs m K) := by unfold recs; infer_instance

theorem inv_at (K : Dev nD × Cl → ℕ) (c : Dev nD) (k : Cl) : recs m K ⊢ cellInv ER (Rd m) (K (c, k)) (kc c k) := by
  unfold recs
  iintro ⟨H, -, -⟩
  iapply (show (bigSep Finset.univ fun ck : Dev nD × Cl => (cellInv ER (Rd m) (K ck) (kc ck.1 ck.2) : sProp 𝕄)) ⊢ cellInv ER (Rd m) (K (c, k)) (kc c k)
    from bigSep_elim (Finset.mem_univ (c, k))) $$ H
theorem reached_at (K : Dev nD × Cl → ℕ) (c : Dev nD) (k : Cl) : recs m K ⊢ reached ER (kc c k) 0 := by
  unfold recs
  iintro ⟨-, H, -⟩
  iapply (show (bigSep Finset.univ fun ck : Dev nD × Cl => (reached ER (kc ck.1 ck.2) 0 : sProp 𝕄)) ⊢ reached ER (kc c k) 0
    from bigSep_elim (Finset.mem_univ (c, k))) $$ H
theorem levs_of (K : Dev nD × Cl → ℕ) : recs m K ⊢ levAts L lv := by
  unfold recs
  iintro ⟨-, -, H⟩
  iexact H

/-- The records, and the debts `l`. -/
def run (K : Dev nD × Cl → ℕ) (c : Dev nD) (l : List Tk) : sProp 𝕄 := iprop(recs m K ∗ ∃ W, owes (c : Thread nD τ) (owedL c l) W)

/-- A cell of the device's own to be waited on, and what the wait gives; the token for a duty. -/
def due (c : Dev nD) (o : Own) : sProp 𝕄 := iprop(cred (tallyAt (kc c (.inr o)) () (amt (.inr o))) ∗ atPos ER (kc c (.inr o)) 0 ∅ 0)
def pos (c : Dev nD) (o : Own) : sProp 𝕄 := atPos ER (kc c (.inr o)) 0 ∅ 0
def owed (c : Dev nD) (o : Own) : sProp 𝕄 := cred (tallyAt (kc c (.inr o)) () (amt (.inr o)))
def zero (c : Dev nD) (k : Cl) : sProp 𝕄 := semVal (kc c k) 0
def tok (c : Dev nD) (x : Tk) : sProp 𝕄 := dutyTok ER (tgt c x) 0 (duty x)

theorem take (K : Dev nD × Cl → ℕ) (c : Dev nD) (o : Own) {s : DmaSem sig} (hs : (SemLoc.dma s : SemLoc sig) = osem o)
    {sp sp' : Space} {t t' : Shape} {e e' : EltTy} {src : Memref sig .tc sp t e} {dst : Memref sig .tc sp' t' e'}
    {hsrc : src.view.WordExact} {hdst : dst.view.WordExact} (hN : dst.view.dmaCredit = amt (.inr o))
    (l : List Tk) (hl : ∀ x ∈ l, lvl (.inr o) < lvl (clOf x)) {k : PUnit → Pg F} {Q : PUnit.{1} → sProp 𝕄} :
    iprop(run m K c l ∗ owed c o ∗ pos c o)
      ⊢ iprop((run m K c l ∗ zero c (.inr o) ∗ pay m c (.inr o) 0 -∗ runs c (k ⟨⟩) Q)
        -∗ runs c (.op (.waitDma2 s src dst hsrc hdst) k) Q) := by
  have hg : (((c : Thread nD τ), SemLoc.dma s) : GSem nD τ sig) = kc c (.inr o) := by rw [hs]; rfl
  unfold run owed pos zero
  iintro ⟨⟨#HR, %W, HO⟩, Hc, Hat⟩ Hk
  rw [← hg]
  iapply (Rounds.wp_wait_rest_token 𝒱₀ ER (Rd m) (c : Thread nD τ) none (κ := K (c, .inr o))
      (wpE_waitDma2_eq 𝒱₀ (c : Thread nD τ) none Set.univ) (Set.mem_univ _) () (O := owedL c l) (W := W) (R := 0) (m := 0) (T := ∅)
      (by rw [hg, Nat.zero_add, expect_at]; exact hN)) $$ [Hc HO Hat]
  · rw [hN]
    isplitr; · rw [hg]; iapply (inv_at m K c (.inr o)) $$ HR
    isplitl [Hc]; · iexact Hc
    isplitl [HO]; · iexact HO
    isplitr
    · iapply (mayWait c (.dma s) (lvl (.inr o)) (by rw [hs]; exact (lv_at c (.inr o) ()).le) l hl)
      iapply (levs_of m K) $$ HR
    iexact Hat
  iintro ⟨HO, Hat, -, Hpay⟩
  rw [hg]
  ihave Hp := (Entails.of_eq (rest_own m c o)) $$ Hpay
  imod (Rounds.cell_close ER (Rd m) (Set.mem_univ (K (c, .inr o))) (fun h => h) (R := 0 + 1) (duties_later m (kc c (.inr o)))) $$ [Hat] with Hz
  · isplitr; · iapply (inv_at m K c (.inr o)) $$ HR
    iexact Hat
  iapply Hk
  isplitl [HO]
  · isplitr; · iexact HR
    iexists _; iexact HO
  isplitl [Hz] <;> iassumption

/-- A sequence runs if its members do. -/
theorem runs_each (c : Dev nD) {ι : Type} (e : ι → Pg F → Pg F) (R : List ι → sProp 𝕄) (A B : ι → sProp 𝕄) {Q : PUnit.{1} → sProp 𝕄}
    (h : ∀ i l k, iprop(R (i :: l) ∗ A i) ⊢ iprop((R l ∗ B i -∗ runs c k Q) -∗ runs c (e i k) Q)) (l : List ι) (k : Pg F) :
    iprop(R l ∗ bigSepL l A) ⊢ iprop((R [] ∗ bigSepL l B -∗ runs c k Q) -∗ runs c (each e l k) Q) := by
  induction l with
  | nil =>
    unfold each
    iintro ⟨HR, HA⟩ Hk
    iapply Hk
    isplitl [HR]; · iexact HR
    iexact HA
  | cons i l ih =>
    unfold each
    rw [bigSepL_cons', bigSepL_cons']
    iintro ⟨HR, HA, HAs⟩ Hk
    iapply (h i l _) $$ [HR HA]
    · isplitl [HR] <;> iassumption
    iintro ⟨HR, HB⟩
    iapply ih $$ [HR HAs]
    · isplitl [HR] <;> iassumption
    iintro ⟨HR, HBs⟩
    iapply Hk
    isplitl [HR]; · iexact HR
    isplitl [HB] <;> iassumption

section Reads
variable {s : Shape} {e : EltTy}

/-- A load that is not used. -/
theorem hole_load (c : Dev nD) {mm : Memref sig .tc .vmem s e} {r : Rect s} {hl : mm.view.LoadsAt r.toLoadRect} {k : Pg F} {Q : PUnit.{1} → sProp 𝕄} :
    (hole c mm r : sProp 𝕄) ⊢ iprop((hole c mm r -∗ runs c k Q) -∗ runs c (.op (.load mm r.toLoadRect hl) fun _ => k) Q) := by
  conv_lhs => unfold hole
  iintro ⟨%X, H⟩ Hk
  iapply (part_load c fullShare X) $$ H
  iintro H
  iapply Hk
  iapply (hole_of c mm r X) $$ H
end Reads

/-! ## Rectangles of a rectangle -/

section Join
variable {T : Type} [Fintype T] [DecidableEq T] (b : Ref sig .tc) (c : Dev nD) (R : Rect b.ty.shape) (hR : ∀ a, R.stride a = 1)
  (r : T → Rect b.ty.shape) (hr : ∀ t a, (r t).stride a = 1)
  (hd : ∀ t t', t ≠ t' → Disjoint (r t).set (r t').set)
  (hcov : (Finset.univ : Finset T).biUnion (fun t => (r t).set) = R.set)
  (q : PosShare TreeShare) (G : b.ty.shape.Idx → Elt F b.ty.elt)
include hR hr hd hcov

theorem join_eq : (part c (Memref.whole b) R q (fun j => G (R.emb j)) : sProp 𝕄)
    = bigSep Finset.univ fun t => part c (Memref.whole b) (r t) q (fun j => G ((r t).emb j)) := by
  have e1 : ∀ r' : Rect b.ty.shape, ((Memref.whole b).view.slice r').set = r'.set := fun r' => by
    rw [View.set_slice]; ext x; simp only [Finset.mem_map]; exact ⟨fun ⟨y, hy, e⟩ => e ▸ hy, fun h => ⟨x, h, rfl⟩⟩
  rw [show (part c (Memref.whole b) R q (fun j => G (R.emb j)) : sProp 𝕄) = _ from part_read c (Memref.whole b) R hR q G,
    bigSep_congr (fun t _ => show (part c (Memref.whole b) (r t) q (fun j => G ((r t).emb j)) : sProp 𝕄) = _ from part_read c (Memref.whole b) (r t) (hr t) q G),
    e1 R, ← hcov, bigSep_congr (fun t _ => by rw [e1 (r t)])]
  exact pointsTo_biUnion Finset.univ _ (fun t _ t' _ h => hd t t' h)
end Join

end Cert.Attn

end
-- ==== Proof.Phases.lean ====
module

public import proofs.«01_k».proof.Proof.Flow

@[expose] public section

/-! # Running a device's text: the phases

Starting the copies of the keys and values, meeting the neighbours, the two halves of each unit, the arrivals, and the
waits for what was sent. -/

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ) (c : Dev nD)

/-! ## The keys and values -/

/-- A head in main memory. -/
def srcH (x : Fin 2 × Fin 2 × Fin 16) : sProp 𝕄 := part c (mSrc x.1) (rSrc c x.2.1 x.2.2) fullShare (xH m c x)
def ldA (x : Fin 2 × Fin 2 × Fin 16) : sProp 𝕄 := iprop(srcH m c x ∗ hole c (mDst x.1) (rDst x.2.1 x.2.2) ∗ tok c (.inr (Own.ld x)))

theorem duty_own (c : Dev nD) (o : Own) : (0 : Fin 4) ∈ (Rd m).duties (kc c (.inr o)) 0 := by rw [duties_own]; exact Finset.mem_singleton_self _

theorem pay_ld (c : Dev nD) (x : Fin 2 × Fin 2 × Fin 16) :
    iprop(part c (mDst x.1) (rDst x.2.1 x.2.2) fullShare (kvH m c x) ∗ part c (mSrc x.1) (rSrc c x.2.1 x.2.2) fullShare (xH m c x))
      ⊢ (Rd m).payload (kc c (.inr (Own.ld x))) 0 0 := Entails.of_eq (payload_at m c (.inr (Own.ld x)) 0).symm

theorem startLd_runs {Q : PUnit.{1} → sProp 𝕄} (l : List Tk) (x : Fin 2 × Fin 2 × Fin 16) (k : Pg F) :
    iprop(run m K c l ∗ ldA m c x) ⊢ iprop((run m K c l ∗ owed c (Own.ld x) -∗ runs c k Q) -∗ runs c (startLd c x k) Q) := by
  unfold startLd ldA srcH tok run owed
  iintro ⟨⟨#HR, HO⟩, Hs, Hd, Ht⟩ Hk
  iapply (part_copy (Rd m) c (m := mSrc x.1) (r := rSrc c x.2.1 x.2.2) (m' := mDst x.1) (r' := rDst x.2.1 x.2.2) (sem := .dma (sLd x.1 x.2.1 x.2.2))
      (κ := K (c, .inr (Own.ld x))) (d := 0) (duty_own m c (Own.ld x))
      (amt (.inr (Own.ld x))) rfl (amount_at m c (.inr (Own.ld x)) 0) fullShare (xH m c x)
      (pay_ld m c x)) $$ [Hs Hd Ht]
  · isplitr; · iapply (inv_at m K c (.inr (Own.ld x))) $$ HR
    isplitl [Hs]; · iexact Hs
    isplitl [Hd]; · iexact Hd
    isplitl [Ht]; · iexact Ht
    iapply (reached_at m K c (.inr (Own.ld x))) $$ HR
  iintro Hc
  iapply Hk
  isplitl [HO]
  · isplitr; · iexact HR
    iexact HO
  iexact Hc

def wtA (x : Fin 2 × Fin 2 × Fin 16) : sProp 𝕄 := iprop(owed c (Own.ld x) ∗ pos c (Own.ld x))
def wtB (x : Fin 2 × Fin 2 × Fin 16) : sProp 𝕄 := iprop(zero c (.inr (Own.ld x)) ∗ pay m c (.inr (Own.ld x)) 0)

theorem waitLd_runs {Q : PUnit.{1} → sProp 𝕄} (l : List Tk) (hl : ∀ x ∈ l, 0 < lvl (clOf x)) (x : Fin 2 × Fin 2 × Fin 16) (k : Pg F) :
    iprop(run m K c l ∗ wtA c x) ⊢ iprop((run m K c l ∗ wtB m c x -∗ runs c k Q) -∗ runs c (waitLd c x k) Q) :=
  by unfold wtA wtB waitLd; exact take m K c (Own.ld x) (src := wSrc c x.1 x.2.1 x.2.2) rfl rfl l hl (k := fun _ => k) (Q := Q)

/-- The heads of a unit. -/
def hh (u : Fin 4) (t : Fin 8) : Fin 16 := ⟨uh u + t.val, by unfold uh; omega⟩

theorem heads_eq {M : Type} [URA M] (u : Fin 4) (Φ : Fin 2 × Fin 2 × Fin 16 → sProp M) :
    bigSepL (heads u) Φ = iprop((bigSep Finset.univ fun t : Fin 8 => Φ (0, ub u, hh u t)) ∗ bigSep Finset.univ fun t : Fin 8 => Φ (1, ub u, hh u t)) := by
  rw [show heads u = ([(0, 0), (1, 0), (0, 1), (1, 1), (0, 2), (1, 2), (0, 3), (1, 3), (0, 4), (1, 4), (0, 5), (1, 5), (0, 6), (1, 6), (0, 7), (1, 7)]
      : List (Fin 2 × Fin 8)).map (fun p => (p.1, ub u, hh u p.2)) from by revert u; decide, bigSepL_map,
    ← bigSep_univ_eq_bigSepL _ (by decide) (by decide), bigSep_univ_prod, bigSep_fin_two]
  rfl

theorem disj_hh (u : Fin 4) : ∀ t t' : Fin 8, t ≠ t' → Disjoint (rDst (ub u) (hh u t)).set (rDst (ub u) (hh u t')).set :=
  fun t t' ne => disj_dst (ub u, hh u t) (ub u, hh u t') fun e => ne (Fin.ext (Nat.add_left_cancel (congrArg (fun p : Fin 2 × Fin 16 => p.2.val) e)))
theorem cover_hh (u : Fin 4) : (Finset.univ : Finset (Fin 8)).biUnion (fun t => (rDst (ub u) (hh u t)).set) = (rKV u).set := by
  ext x
  rw [Finset.mem_biUnion, Rect.mem_set_unit]
  constructor
  · rintro ⟨t, -, h⟩ a
    have h := Rect.mem_set_unit.mp h a
    fin_cases a
    · exact h
    · have h1 : uh u + t.val ≤ (x 1 : Fin 16).val ∧ (x 1 : Fin 16).val < uh u + t.val + 1 := h
      have ht := t.isLt
      exact ⟨by show uh u ≤ (x 1 : Fin 16).val; omega, by show (x 1 : Fin 16).val < uh u + 8; omega⟩
    · exact h
    · exact h
  · intro h
    have h1 : uh u ≤ (x 1 : Fin 16).val ∧ (x 1 : Fin 16).val < uh u + 8 := h 1
    refine ⟨⟨(x 1 : Fin 16).val - uh u, by omega⟩, Finset.mem_univ _, Rect.mem_set_unit.mpr fun a => ?_⟩
    fin_cases a
    · exact h 0
    · refine ⟨?_, ?_⟩
      · show uh u + ((x 1 : Fin 16).val - uh u) ≤ (x 1 : Fin 16).val; omega
      · show (x 1 : Fin 16).val < uh u + ((x 1 : Fin 16).val - uh u) + 1; omega
    · exact h 2
    · exact h 3

/-- A unit's heads landed are its rectangle of the buffer at the buffer's values. -/
theorem landed (j : Fin 2) (u : Fin 4) :
    (bigSep Finset.univ fun t : Fin 8 => part c (mDst j) (rDst (ub u) (hh u t)) fullShare (kvH m c (j, ub u, hh u t)) : sProp 𝕄)
      = part c (mDst j) (rKV u) fullShare (kU m c j u) := by
  have h (b : Ref sig .tc) (e : b.ty.shape = S2x16x1024x128) : True := trivial
  have hG : ∀ t, kvH m c (j, ub u, hh u t) = fun i => kv m c j ((rDst (ub u) (hh u t)).emb i) := fun t => funext fun i =>
    (glue_emb (fun t : Fin 2 × Fin 16 => rDst t.1 t.2) disj_dst (fun t => kvH m c (j, t.1, t.2)) (ub u, hh u t) i).symm
  rw [bigSep_congr (fun t _ => by rw [hG t])]
  fin_cases j
  · exact (join_eq cc0_scratch0 c (rKV u) (fun _ => rfl) (fun t => rDst (ub u) (hh u t)) (fun _ _ => rfl) (disj_hh u) (cover_hh u) fullShare (kv m c 0)).symm
  · exact (join_eq cc0_scratch1 c (rKV u) (fun _ => rfl) (fun t => rDst (ub u) (hh u t)) (fun _ _ => rfl) (disj_hh u) (cover_hh u) fullShare (kv m c 1)).symm

/-- What a unit's waits give. -/
theorem wtB_unit (u : Fin 4) : bigSepL (heads u) (wtB m c)
    ⊢ iprop(bigSepL (heads u) (fun x => zero c (.inr (Own.ld x))) ∗ bigSepL (heads u) (srcH m c)
      ∗ part c (mDst 0) (rKV u) fullShare (kU m c 0 u) ∗ part c (mDst 1) (rKV u) fullShare (kU m c 1 u)) := by
  unfold wtB
  rw [bigSepL_sep]
  rw [show (bigSepL (heads u) fun x => pay m c (.inr (Own.ld x)) 0) = bigSepL (heads u) fun x =>
    iprop(part c (mDst x.1) (rDst x.2.1 x.2.2) fullShare (kvH m c x) ∗ srcH m c x) from rfl, bigSepL_sep,
    heads_eq u (fun x => part c (mDst x.1) (rDst x.2.1 x.2.2) fullShare (kvH m c x))]
  dsimp only
  rw [landed m c 0 u, landed m c 1 u]
  iintro ⟨Hz, ⟨H0, H1⟩, Hs⟩
  isplitl [Hz]; · iexact Hz
  isplitl [Hs]; · iexact Hs
  isplitl [H0] <;> iassumption

/-! ## Meeting the neighbours -/

/-- A neighbour signalled. -/
def signal1 (i : Fin 4) (k : Pg F) : Pg F := semSignalWord (nb c i) sBar 1#32 >>= fun _ => k

def brA (k : Fin 4) : sProp 𝕄 := iprop(tok c (.inl k) ∗ land c k)

theorem duty_bar (c : Dev nD) (d : Fin 4) : d ∈ (Rd m).duties (kc c (.inl ())) 0 := by rw [duties_bar]; exact Finset.mem_univ _
theorem pay_bar (c : Dev nD) (i : Fin 4) : land c i ⊢ (Rd m).payload (((nb c i : Dev nD) : Thread nD τ), SemLoc.reg sBar) 0 i :=
  Entails.of_eq ((payload_at m (nb c i) (.inl ()) i).trans (show land (nb (nb c i) i) i = land c i from by rw [nb_nb])).symm
theorem rest_meet (c : Dev nD) : (bigSep ((Rd m).duties ((c : Thread nD τ), SemLoc.reg sBar) 0 \ ∅) fun d => (Rd m).payload ((c : Thread nD τ), SemLoc.reg sBar) 0 d)
    ⊢ bigSepL [0, 1, 2, 3] fun d : Fin 4 => land (nb c d) d := Entails.of_eq (rest_bar m c)

theorem signal_runs {Q : PUnit.{1} → sProp 𝕄} (l : List Tk) (i : Fin 4) (k : Pg F) :
    iprop(run m K c (.inl i :: l) ∗ brA c i) ⊢ iprop((run m K c l ∗ emp -∗ runs c k Q) -∗ runs c (signal1 c i k) Q) := by
  unfold signal1
  simp only [semSignalWord, Prog.lift, Prog.bind_op, Prog.bind_ret, Prog.pure_eq_ret]
  unfold run brA tok
  iintro ⟨⟨#HR, %W, HO⟩, Ht, Hl⟩ Hk
  iapply (Rounds.wp_signal 𝒱₀ ER (Rd m) (c : Thread nD τ) none (dst := (nb c i : Thread nD τ)) (κ := K (nb c i, .inl ()))
      (d := i) (duty_bar m (nb c i) i)
      ((amount_at m (nb c i) (.inl ()) i).trans (by decide)) () (owedL c l) rfl) $$ [HO Ht Hl]
  · isplitr; · iapply (inv_at m K (nb c i) (.inl ())) $$ HR
    isplitl [HO]; · iexact HO
    isplitl [Ht]; · iexact Ht
    isplitl [Hl]
    · iapply (pay_bar m c i) $$ Hl
    iapply (reached_at m K (nb c i) (.inl ())) $$ HR
  iintro HO
  iapply Hk
  isplitl [HO]
  · isplitr; · iexact HR
    iexists W; iexact HO
  iempintro

theorem meet_runs {Q : PUnit.{1} → sProp 𝕄} (l : List Tk) (hl : ∀ x ∈ l, 1 < lvl (clOf x)) (k : Pg F) :
    iprop(run m K c l ∗ cred (tallyAt (kc c (.inl ())) () 4) ∗ atPos ER (kc c (.inl ())) 0 ∅ 0)
      ⊢ iprop((run m K c l ∗ zero c (.inl ()) ∗ bigSepL [0, 1, 2, 3] (fun d : Fin 4 => land (nb c d) d) -∗ runs c k Q)
        -∗ runs c (semWaitWord sBar 4#32 >>= fun _ => k) Q) := by
  simp only [semWaitWord, Prog.lift, Prog.bind_op, Prog.bind_ret, Prog.pure_eq_ret]
  unfold run zero
  iintro ⟨⟨#HR, %W, HO⟩, Hc, Hat⟩ Hk
  iapply (Rounds.wp_wait_rest_token 𝒱₀ ER (Rd m) (c : Thread nD τ) none (κ := K (c, .inl ()))
      (wpE_semWait_eq 𝒱₀ (c : Thread nD τ) none Set.univ) (Set.mem_univ _) () (O := owedL c l) (W := W) (R := 0) (m := 0) (T := ∅)
      (show 0 + _ = (Rd m).expect (kc c (.inl ())) 0 from by rw [expect_at]; decide)) $$ [Hc HO Hat]
  · isplitr; · iapply (inv_at m K c (.inl ())) $$ HR
    isplitl [Hc]; · iexact Hc
    isplitl [HO]; · iexact HO
    isplitr
    · iapply (mayWait c (.reg sBar) 1 (lv_at c (.inl ()) ()).le l hl)
      iapply (levs_of m K) $$ HR
    iexact Hat
  iintro ⟨HO, Hat, -, Hpay⟩
  ihave Hp := (rest_meet m c) $$ Hpay
  imod (Rounds.cell_close ER (Rd m) (Set.mem_univ (K (c, .inl ()))) (fun h => h) (R := 0 + 1) (duties_later m (kc c (.inl ())))) $$ [Hat] with Hz
  · isplitr; · iapply (inv_at m K c (.inl ())) $$ HR
    iexact Hat
  iapply Hk
  isplitl [HO]
  · isplitr; · iexact HR
    iexists _; iexact HO
  isplitl [Hz] <;> iassumption

def dueB (l : List Tk) : List (Fin 4) → List Tk
  | [] => l
  | i :: is => .inl i :: dueB l is

theorem signals_runs {Q : PUnit.{1} → sProp 𝕄} (l : List Tk) (is : List (Fin 4)) (k : Pg F) :
    iprop(run m K c (dueB l is) ∗ bigSepL is (brA c))
      ⊢ iprop((run m K c l ∗ bigSepL is (fun _ => iprop(emp)) -∗ runs c k Q) -∗ runs c (each (signal1 c) is k) Q) :=
  runs_each c (Q := Q) (signal1 c) (fun is => run m K c (dueB l is)) (brA c) (fun _ => iprop(emp))
    (fun i is k => signal_runs m K c (dueB l is) i k) is k

theorem bars_runs {Q : PUnit.{1} → sProp 𝕄} (l : List Tk) (hl : ∀ x ∈ l, 1 < lvl (clOf x)) (k : Pg F) :
    iprop(run m K c (duesB ++ l) ∗ bigSepL [0, 1, 2, 3] (brA c) ∗ cred (tallyAt (kc c (.inl ())) () 4) ∗ atPos ER (kc c (.inl ())) 0 ∅ 0)
      ⊢ iprop((run m K c l ∗ zero c (.inl ()) ∗ bigSepL [0, 1, 2, 3] (fun d : Fin 4 => land (nb c d) d) -∗ runs c k Q) -∗ runs c (bars c k) Q) := by
  rw [show bars c k = each (signal1 c) [0, 1, 2, 3] (semWaitWord sBar 4#32 >>= fun _ => k) from rfl]
  iintro ⟨HR, HA, Hc, Hat⟩ Hk
  iapply (signals_runs m K c l [0, 1, 2, 3] (semWaitWord sBar 4#32 >>= fun _ => k)) $$ [HR HA]
  · isplitl [HR]; · iexact HR
    iexact HA
  iintro ⟨HR, -⟩
  iapply (meet_runs m K c l hl k) $$ [HR Hc Hat]
  · isplitl [HR]; · iexact HR
    isplitl [Hc]; · iexact Hc
    iexact Hat
  iexact Hk

end Cert.Attn

end
-- ==== Proof.Units.lean ====
module

public import proofs.«01_k».proof.Proof.Phases

@[expose] public section

/-! # Running a device's text: the units

The first half of a unit computes its partial result and denominator and sends them across the axis; the second half
combines them with those received and sends the finished unit to the three other devices; then the arrivals and the waits
for what was sent. -/

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ) (c : Dev nD)

theorem credit_so (u : Fin 4) : (wO mSO u).view.dmaCredit = (wO mRO u).view.dmaCredit := by unfold View.dmaCredit; dsimp only [sig]
theorem credit_sl (u : Fin 4) : (wL mSL u).view.dmaCredit = (wL mRL u).view.dmaCredit := by unfold View.dmaCredit; dsimp only [sig]
theorem credit_sf (u : Fin 4) (i : Fin 3) : (wSF u).view.dmaCredit = (wRF i u).view.dmaCredit := by unfold View.dmaCredit; dsimp only [sig]

/-- A send: the first debt is paid, the sent rectangle lent until the send's own semaphore is waited on. -/
theorem send_runs {Q : PUnit.{1} → sProp 𝕄} (xs xr : Own) (c' : Dev nD) (hs : via (.inr xs) c = c) (hc : via (.inr xr) c = c') {sp sp' : Space} {s s' t : Shape} {e : EltTy}
    {mm : Memref sig .tc sp s e} {r : Rect s} {hr : ∀ a, r.stride a = 1} {hq : r.shape.Squeezes t}
    {m' : Memref sig .tc sp' s' e} {r' : Rect s'} {hr' : ∀ a, r'.stride a = 1} {hq' : r'.shape.Squeezes t} {sS sem : SemLoc sig}
    (es : sS = osem xs) (er : sem = osem xr)
    {hsc : ((m'.slice r' hr').squeeze t hq').view.ref.isScScratch = false}
    {hsrc : ((mm.slice r hr).squeeze t hq).view.WordExact} {hdst : ((m'.slice r' hr').squeeze t hq').view.WordExact}
    {hsem : DmaTarget.Typed sp sem (.remote (Dev.tc c' : Thread nD τ) ((m'.slice r' hr').squeeze t hq') sS hsc)} {k : PUnit → Pg F}
    (hN : ((m'.slice r' hr').squeeze t hq').view.amount sem = amt (.inr xr)) (ha : amt (.inr xs) = amt (.inr xr))
    (q : PosShare TreeShare) (X : r.shape.Idx → Elt F e)
    (hpay₁ : part c mm r q X ⊢ pay m c (.inr xs) 0)
    (hpay₂ : part c' m' r' fullShare (moved (hq'.numel_eq.symm.trans hq.numel_eq) X) ⊢ pay m c' (.inr xr) 0) (l : List Tk) :
    iprop(run m K c (.inr xr :: l) ∗ part c mm r q X ∗ hole (F := F) c' m' r' ∗ tok c (.inr xs) ∗ tok c (.inr xr))
      ⊢ iprop((run m K c l ∗ owed c xs -∗ runs c (k ⟨⟩) Q)
        -∗ runs c (.op (.enqueueDma ((mm.slice r hr).squeeze t hq) (.remote (Dev.tc c' : Thread nD τ) ((m'.slice r' hr').squeeze t hq') sS hsc) sem hsrc hdst hsem) k) Q) := by
  subst es er hc
  have e1 : (tok c (.inr xs) : sProp 𝕄) = dutyTok ER (kc c (.inr xs)) 0 0 := by unfold tok; rw [show tgt c (.inr xs) = kc c (.inr xs) from congrArg (fun d => kc d (.inr xs)) hs]; rfl
  rw [e1]
  unfold run tok owed
  iintro ⟨⟨#HR, %W, HO⟩, Hs, Hd, Ht, Ht'⟩ Hk
  iapply (part_send (Rd m) c (via (.inr xr) c) (κ₁ := K (c, .inr xs)) (κ₂ := K (via (.inr xr) c, .inr xr)) (d₁ := 0) (d₂ := 0)
      (duty_own m c xs) (duty_own m (via (.inr xr) c) xr) (amt (.inr xr)) hN ((amount_at m c (.inr xs) 0).trans ha) (amount_at m (via (.inr xr) c) (.inr xr) 0)
      (owedL c l) rfl (W := W) q X (hpay₁.trans (Entails.of_eq (payload_at m c (.inr xs) 0).symm))
      (hpay₂.trans (Entails.of_eq (payload_at m (via (.inr xr) c) (.inr xr) 0).symm))) $$ [Hs Hd HO Ht Ht']
  · isplitr; · iapply (inv_at m K c (.inr xs)) $$ HR
    isplitr; · iapply (inv_at m K (via (.inr xr) c) (.inr xr)) $$ HR
    isplitl [Hs]; · iexact Hs
    isplitl [Hd]; · iexact Hd
    isplitl [HO]; · iexact HO
    isplitl [Ht]; · iexact Ht
    isplitr; · iapply (reached_at m K c (.inr xs)) $$ HR
    isplitl [Ht']; · iexact Ht'
    iapply (reached_at m K (via (.inr xr) c) (.inr xr)) $$ HR
  iintro ⟨Hc, HO⟩
  iapply Hk
  isplitl [HO]
  · isplitr; · iexact HR
    iexists _; iexact HO
  rw [ha]
  iexact Hc

/-! ## The first half -/

def u1A (u : Fin 4) : sProp 𝕄 :=
  iprop(bigSepL (heads u) (wtA c) ∗ hole c mO (rO u) ∗ hole c mL (rL u) ∗ hole c mSO (rO u) ∗ hole c mSL (rL u)
    ∗ hole (nb c 0) mRO (rO u) ∗ hole (nb c 0) mRL (rL u)
    ∗ tok c (.inr (Own.p1 u 0 0)) ∗ tok c (.inr (Own.p1 u 0 1)) ∗ tok c (.inr (Own.p1 u 1 0)) ∗ tok c (.inr (Own.p1 u 1 1)))
def u1B (u : Fin 4) : sProp 𝕄 :=
  iprop((bigSepL (heads u) (fun x => zero c (.inr (Own.ld x))) ∗ bigSepL (heads u) (srcH m c)
      ∗ hole c (mDst 0) (rKV u) ∗ hole c (mDst 1) (rKV u))
    ∗ (part c mO (rO u) fullShare (pO m c u) ∗ part c mL (rL u) fullShare (pL m c u)) ∗ owed c (Own.p1 u 0 0) ∗ owed c (Own.p1 u 1 0))

theorem pay_ro (c : Dev nD) (u : Fin 4) (h : S1x8x8x128.numel = S1x8x8x128.numel) :
    part (nb c 0) mRO (rO u) fullShare (moved h (pS m c u)) ⊢ pay m (nb c 0) (.inr (Own.p1 u 0 1)) 0 := by
  rw [moved_self]; show _ ⊢ part (nb c 0) mRO (rO u) fullShare (pS m (nb (nb c 0) 0) u); rw [nb_nb]
theorem pay_rl (c : Dev nD) (u : Fin 4) (h : S1x8x8.numel = S1x8x8.numel) :
    part (nb c 0) mRL (rL u) fullShare (moved h (pL m c u)) ⊢ pay m (nb c 0) (.inr (Own.p1 u 1 1)) 0 := by
  rw [moved_self]; show _ ⊢ part (nb c 0) mRL (rL u) fullShare (pL m (nb (nb c 0) 0) u); rw [nb_nb]

theorem unit1_runs {Q : PUnit.{1} → sProp 𝕄} (l : List Tk) (hl : ∀ x ∈ l, 0 < lvl (clOf x)) (u : Fin 4) (k : Pg F) :
    iprop(run m K c (dues1 u ++ l) ∗ u1A c u) ⊢ iprop((run m K c l ∗ u1B m c u -∗ runs c k Q) -∗ runs c (unit1 c (qO m c) u k) Q) := by
  unfold unit1 u1A u1B
  iintro ⟨HR, Hw, Ho, Hl, Hso, Hsl, Hro, Hrl, t00, t01, t10, t11⟩ Hk
  iapply (runs_each c (waitLd c) (fun _ => run m K c (dues1 u ++ l)) (wtA c) (wtB m c)
    (fun x _ k => waitLd_runs m K c (dues1 u ++ l) (by
      intro x hx; rcases List.mem_append.mp hx with h | h
      · unfold dues1 at h; revert h; simp only [List.mem_cons, List.not_mem_nil, or_false]; rintro (rfl | rfl) <;> exact Nat.zero_lt_two
      · exact hl x h) x k) (heads u) _) $$ [HR Hw]
  · isplitl [HR]; · iexact HR
    iexact Hw
  iintro ⟨HR, Hw⟩
  ihave Hw' := (wtB_unit m c u) $$ Hw
  icases Hw' with ⟨Hz, Hs, H0, H1⟩
  iapply (part_load c fullShare (kU m c 0 u)) $$ H0; iintro H0
  iapply (part_load c fullShare (kU m c 1 u)) $$ H1; iintro H1
  iapply (hole_load c) $$ Ho; iintro Ho
  iapply (part_store c) $$ Ho; iintro Ho
  iapply (hole_load c) $$ Hl; iintro Hl
  iapply (part_store c) $$ Hl; iintro Hl
  iapply (hole_load c) $$ Hso; iintro Hso
  iapply (part_store c) $$ Hso; iintro Hso
  iapply (hole_load c) $$ Hsl; iintro Hsl
  iapply (part_store c) $$ Hsl; iintro Hsl
  iapply (send_runs m K c (Own.p1 u 0 0) (Own.p1 u 0 1) (nb c 0) rfl rfl (mm := mSO) (r := rO u) (m' := mRO) (r' := rO u) rfl rfl rfl rfl fullShare (pS m c u)
    (BIBase.Entails.rfl) (pay_ro m c u _) (.inr (Own.p1 u 1 1) :: l)) $$ [HR Hso Hro t00 t01]
  · isplitl [HR]; · iexact HR
    isplitl [Hso]; · iexact Hso
    isplitl [Hro]; · iexact Hro
    isplitl [t00] <;> iassumption
  iintro ⟨HR, Hc0⟩
  iapply (send_runs m K c (Own.p1 u 1 0) (Own.p1 u 1 1) (nb c 0) rfl rfl (mm := mSL) (r := rL u) (m' := mRL) (r' := rL u) rfl rfl rfl rfl fullShare (pL m c u)
    (BIBase.Entails.rfl) (pay_rl m c u _) l) $$ [HR Hsl Hrl t10 t11]
  · isplitl [HR]; · iexact HR
    isplitl [Hsl]; · iexact Hsl
    isplitl [Hrl]; · iexact Hrl
    isplitl [t10] <;> iassumption
  iintro ⟨HR, Hc1⟩
  iapply Hk
  isplitl [HR]; · iexact HR
  isplitl [Hz Hs H0 H1]
  · isplitl [Hz]; · iexact Hz
    isplitl [Hs]; · iexact Hs
    isplitl [H0]
    · iapply (hole_of c (mDst 0) (rKV u) (kU m c 0 u)) $$ H0
    · iapply (hole_of c (mDst 1) (rKV u) (kU m c 1 u)) $$ H1
  isplitl [Ho Hl]
  · isplitl [Ho]; · iexact Ho
    iexact Hl
  isplitl [Hc0] <;> iassumption

/-! ## The second half -/

def s2A (u : Fin 4) (i : Fin 3) : sProp 𝕄 :=
  iprop(part c mSF (rSF u) (sh i) (fS m c u) ∗ hole (nb c i.succ) mRF (rRF i u) ∗ tok c (.inr (Own.ps u i)) ∗ tok c (.inr (Own.pr u i)))

theorem pay_rf (c : Dev nD) (u : Fin 4) (i : Fin 3) (h : S1x1x8x8x128.numel = S1x8x8x128.numel) :
    part (nb c i.succ) mRF (rRF i u) fullShare (moved h (fS m c u)) ⊢ pay m (nb c i.succ) (.inr (Own.pr u i)) 0 := by
  show _ ⊢ part (nb c i.succ) mRF (rRF i u) fullShare (moved _ (fS m (nb (nb c i.succ) i.succ) u)); rw [nb_nb]

theorem send2_runs {Q : PUnit.{1} → sProp 𝕄} (l : List Tk) (u : Fin 4) (i : Fin 3) (k : Pg F) :
    iprop(run m K c (.inr (Own.pr u i) :: l) ∗ s2A m c u i)
      ⊢ iprop((run m K c l ∗ owed c (Own.ps u i) -∗ runs c k Q) -∗ runs c (send2 c u i k) Q) := by
  unfold send2 s2A
  exact send_runs m K c (Own.ps u i) (Own.pr u i) (nb c i.succ) rfl rfl (mm := mSF) (r := rSF u) (m' := mRF) (r' := rRF i u) rfl rfl rfl rfl (sh i) (fS m c u)
    (BIBase.Entails.rfl) (pay_rf m c u i _) l (k := fun _ => k) (Q := Q)

/-- A rectangle held in the three sends' shares. -/
theorem shares {sp : Space} {s : Shape} {e : EltTy} (c : Dev nD) (mm : Memref sig .tc sp s e) (r : Rect s) (X : r.shape.Idx → Elt F e) :
    (part c mm r fullShare X : sProp 𝕄) ⊢ bigSepL [0, 1, 2] fun i : Fin 3 => part c mm r (sh i) X := by
  rw [bigSepL_cons', bigSepL_cons', show (bigSepL [(2 : Fin 3)] fun i => part c mm r (sh i) X) = part c mm r (sh 2) X from rfl]
  unfold part
  iintro ⟨%f, %hf, H⟩
  ihave H' := (pointsTo_share (PosShare.mem_left_op_right fullShare)).1 $$ H
  icases H' with ⟨H0, H⟩
  ihave H' := (pointsTo_share (PosShare.mem_left_op_right fullShare.right)).1 $$ H
  icases H' with ⟨H1, H2⟩
  isplitl [H0]
  · iexists f; isplitr; · ipureintro; exact hf
    iexact H0
  isplitl [H1]
  · iexists f; isplitr; · ipureintro; exact hf
    iexact H1
  · iexists f; isplitr; · ipureintro; exact hf
    iexact H2

def u2A (u : Fin 4) : sProp 𝕄 :=
  iprop((owed c (Own.p1 u 0 1) ∗ pos c (Own.p1 u 0 1)) ∗ (owed c (Own.p1 u 1 1) ∗ pos c (Own.p1 u 1 1))
    ∗ (part c mO (rO u) fullShare (pO m c u) ∗ part c mL (rL u) fullShare (pL m c u)) ∗ hole c mOut (rOut c 0 u) ∗ hole c mSF (rSF u)
    ∗ bigSepL [0, 1, 2] fun i : Fin 3 => iprop(hole (nb c i.succ) mRF (rRF i u) ∗ tok c (.inr (Own.ps u i)) ∗ tok c (.inr (Own.pr u i))))
def u2B (u : Fin 4) : sProp 𝕄 :=
  iprop((zero c (.inr (Own.p1 u 0 1)) ∗ zero c (.inr (Own.p1 u 1 1))) ∗ (hole c mO (rO u) ∗ hole c mL (rL u) ∗ hole c mRO (rO u) ∗ hole c mRL (rL u))
    ∗ part c mOut (rOut c 0 u) fullShare (fO m c u) ∗ bigSepL [0, 1, 2] fun i : Fin 3 => owed c (Own.ps u i))

def due2 (u : Fin 4) (l : List Tk) : List (Fin 3) → List Tk
  | [] => l
  | i :: is => .inr (Own.pr u i) :: due2 u l is

theorem unit2_runs {Q : PUnit.{1} → sProp 𝕄} (l : List Tk) (u : Fin 4) (hl : ∀ x ∈ due2 u l [0, 1, 2], 2 < lvl (clOf x)) (k : Pg F) :
    iprop(run m K c (due2 u l [0, 1, 2]) ∗ u2A m c u) ⊢ iprop((run m K c l ∗ u2B m c u -∗ runs c k Q) -∗ runs c (unit2 c u k) Q) := by
  unfold unit2 u2A u2B
  iintro ⟨HR, ⟨c0, p0⟩, ⟨c1, p1⟩, ⟨Ho, Hl⟩, Hout, Hsf, Hs⟩ Hk
  iapply (take m K c (Own.p1 u 0 1) rfl rfl (due2 u l [0, 1, 2]) hl) $$ [HR c0 p0]
  · isplitl [HR]; · iexact HR
    isplitl [c0] <;> iassumption
  iintro ⟨HR, z0, Hro⟩
  iapply (take m K c (Own.p1 u 1 1) rfl rfl (due2 u l [0, 1, 2]) hl) $$ [HR c1 p1]
  · isplitl [HR]; · iexact HR
    isplitl [c1] <;> iassumption
  iintro ⟨HR, z1, Hrl⟩
  ihave Hro := (show pay m c (.inr (Own.p1 u 0 1)) 0 ⊢ part c mRO (rO u) fullShare (pS m (nb c 0) u) from BIBase.Entails.rfl) $$ Hro
  ihave Hrl := (show pay m c (.inr (Own.p1 u 1 1)) 0 ⊢ part c mRL (rL u) fullShare (pL m (nb c 0) u) from BIBase.Entails.rfl) $$ Hrl
  iapply (part_load c fullShare (pO m c u)) $$ Ho; iintro Ho
  iapply (part_load c fullShare (pS m (nb c 0) u)) $$ Hro; iintro Hro
  iapply (part_load c fullShare (pL m c u)) $$ Hl; iintro Hl
  iapply (part_load c fullShare (pL m (nb c 0) u)) $$ Hrl; iintro Hrl
  iapply (hole_load c) $$ Hout; iintro Hout
  iapply (part_store c) $$ Hout; iintro Hout
  iapply (hole_load c) $$ Hsf; iintro Hsf
  iapply (part_store c) $$ Hsf; iintro Hsf
  ihave Hsh := (show part c mSF (rSF u) fullShare (finSd (pO m c u) (pS m (nb c 0) u) (pL m c u) (pL m (nb c 0) u)) ⊢ bigSepL [0, 1, 2] fun i : Fin 3 => part c mSF (rSF u) (sh i) (fS m c u) from shares c mSF (rSF u) (fS m c u)) $$ Hsf
  ihave Hs' := (show iprop((bigSepL [0, 1, 2] fun i : Fin 3 => part c mSF (rSF u) (sh i) (fS m c u))
      ∗ bigSepL [0, 1, 2] fun i : Fin 3 => iprop(hole (nb c i.succ) mRF (rRF i u) ∗ tok c (.inr (Own.ps u i)) ∗ tok c (.inr (Own.pr u i))))
      ⊢ bigSepL [0, 1, 2] (s2A m c u) from Entails.of_eq (bigSepL_sep _ _ _).symm) $$ [Hsh Hs]
  · isplitl [Hsh] <;> iassumption
  iapply (runs_each c (send2 c u) (fun is => run m K c (due2 u l is)) (s2A m c u) (fun i => owed c (Own.ps u i))
    (fun i is k => send2_runs m K c (due2 u l is) u i k) [0, 1, 2] k) $$ [HR Hs']
  · isplitl [HR] <;> iassumption
  iintro ⟨HR, Hcs⟩
  iapply Hk
  isplitl [HR]; · iexact HR
  isplitl [z0 z1]
  · isplitl [z0] <;> iassumption
  isplitl [Ho Hl Hro Hrl]
  · isplitl [Ho]; · iapply (hole_of c mO (rO u) (pO m c u)) $$ Ho
    isplitl [Hl]; · iapply (hole_of c mL (rL u) (pL m c u)) $$ Hl
    isplitl [Hro]; · iapply (hole_of c mRO (rO u) (pS m (nb c 0) u)) $$ Hro
    iapply (hole_of c mRL (rL u) (pL m (nb c 0) u)) $$ Hrl
  isplitl [Hout]; · iexact Hout
  iexact Hcs

/-! ## The arrivals and the last waits -/

def r2A (u : Fin 4) (i : Fin 3) : sProp 𝕄 := iprop((owed c (Own.pr u i) ∗ pos c (Own.pr u i)) ∗ hole c mOut (rOut c i.succ u))
def r2B (u : Fin 4) (i : Fin 3) : sProp 𝕄 :=
  iprop(zero c (.inr (Own.pr u i)) ∗ hole c mRF (rRF i u) ∗ part c mOut (rOut c i.succ u) fullShare (widen (rV m c u i)))

theorem recv2_runs {Q : PUnit.{1} → sProp 𝕄} (u : Fin 4) (i : Fin 3) (k : Pg F) :
    iprop(run m K c [] ∗ r2A c u i) ⊢ iprop((run m K c [] ∗ r2B m c u i -∗ runs c k Q) -∗ runs c (recv2 c u i k) Q) := by
  unfold recv2 r2A r2B
  iintro ⟨HR, ⟨c0, p0⟩, Hout⟩ Hk
  iapply (take m K c (Own.pr u i) rfl rfl [] (fun x hx => absurd hx List.not_mem_nil)) $$ [HR c0 p0]
  · isplitl [HR]; · iexact HR
    isplitl [c0] <;> iassumption
  iintro ⟨HR, z0, Hrf⟩
  ihave Hrf := (show pay m c (.inr (Own.pr u i)) 0 ⊢ part c mRF (rRF i u) fullShare (rV m c u i) from BIBase.Entails.rfl) $$ Hrf
  iapply (part_load c fullShare (rV m c u i)) $$ Hrf; iintro Hrf
  iapply (hole_load c) $$ Hout; iintro Hout
  iapply (part_store c) $$ Hout; iintro Hout
  iapply Hk
  isplitl [HR]; · iexact HR
  isplitl [z0]; · iexact z0
  isplitl [Hrf]; · iapply (hole_of c mRF (rRF i u) (rV m c u i)) $$ Hrf
  iexact Hout

def t1A (u : Fin 4) : sProp 𝕄 :=
  iprop((owed c (Own.p1 u 0 0) ∗ pos c (Own.p1 u 0 0)) ∗ (owed c (Own.p1 u 1 0) ∗ pos c (Own.p1 u 1 0)))
def t1B (u : Fin 4) : sProp 𝕄 :=
  iprop((zero c (.inr (Own.p1 u 0 0)) ∗ zero c (.inr (Own.p1 u 1 0))) ∗ hole c mSO (rO u) ∗ hole c mSL (rL u))

theorem sent1_runs {Q : PUnit.{1} → sProp 𝕄} (u : Fin 4) (k : Pg F) :
    iprop(run m K c [] ∗ t1A c u) ⊢ iprop((run m K c [] ∗ t1B c u -∗ runs c k Q) -∗ runs c (sent1 u k) Q) := by
  unfold sent1 t1A t1B
  iintro ⟨HR, ⟨c0, p0⟩, ⟨c1, p1⟩⟩ Hk
  iapply (take m K c (Own.p1 u 0 0) (src := wO mRO u) (dst := wO mSO u) rfl (credit_so u) [] (fun x hx => absurd hx List.not_mem_nil)) $$ [HR c0 p0]
  · isplitl [HR]; · iexact HR
    isplitl [c0] <;> iassumption
  iintro ⟨HR, z0, Ho⟩
  iapply (take m K c (Own.p1 u 1 0) (src := wL mRL u) (dst := wL mSL u) rfl (credit_sl u) [] (fun x hx => absurd hx List.not_mem_nil)) $$ [HR c1 p1]
  · isplitl [HR]; · iexact HR
    isplitl [c1] <;> iassumption
  iintro ⟨HR, z1, Hl⟩
  iapply Hk
  isplitl [HR]; · iexact HR
  isplitl [z0 z1]
  · isplitl [z0] <;> iassumption
  isplitl [Ho]
  · iapply (show pay m c (.inr (Own.p1 u 0 0)) 0 ⊢ hole c mSO (rO u) from hole_of c mSO (rO u) (pS m c u)) $$ Ho
  · iapply (show pay m c (.inr (Own.p1 u 1 0)) 0 ⊢ hole c mSL (rL u) from hole_of c mSL (rL u) (pL m c u)) $$ Hl

def t2A (u : Fin 4) (i : Fin 3) : sProp 𝕄 := iprop(owed c (Own.ps u i) ∗ pos c (Own.ps u i))
def t2B (u : Fin 4) (i : Fin 3) : sProp 𝕄 := iprop(zero c (.inr (Own.ps u i)) ∗ part c mSF (rSF u) (sh i) (fS m c u))

theorem sent2_runs {Q : PUnit.{1} → sProp 𝕄} (u : Fin 4) (i : Fin 3) (k : Pg F) :
    iprop(run m K c [] ∗ t2A c u i) ⊢ iprop((run m K c [] ∗ t2B m c u i -∗ runs c k Q) -∗ runs c (sent2 u i k) Q) := by
  unfold sent2 t2A t2B
  exact take m K c (Own.ps u i) (src := wRF i u) rfl (credit_sf u i) [] (fun x hx => absurd hx List.not_mem_nil) (k := fun _ => k) (Q := Q)

/-- Two holders that read the same of a rectangle hold the same contents there, and are one holder of both shares. -/
theorem part_join {sp : Space} {s : Shape} {e : EltTy} (c : Dev nD) (mm : Memref sig .tc sp s e) (r : Rect s) (q₁ q₂ q : PosShare TreeShare)
    (X : r.shape.Idx → Elt F e) (hq : q ∈ PCS.op q₁ q₂) : iprop(part c mm r q₁ X ∗ part c mm r q₂ X) ⊢ (part c mm r q X : sProp 𝕄) := by
  unfold part
  iintro ⟨⟨%f, %hf, H0⟩, ⟨%g, -, H1⟩⟩
  ihave %h := pointsTo_agree $$ [H0 H1]
  · isplitl [H0] <;> iassumption
  rw [pointsTo_congr (fun i hi => ((h i (Finset.mem_inter.mpr ⟨hi, hi⟩)).1).symm)]
  refine BIBase.Entails.trans (pointsTo_share hq).2 ?_
  iintro H
  iexists f
  isplitr; · ipureintro; exact hf
  iexact H

/-- The three shares together are the rectangle again. -/
theorem unshare {sp : Space} {s : Shape} {e : EltTy} (c : Dev nD) (mm : Memref sig .tc sp s e) (r : Rect s) (X : r.shape.Idx → Elt F e) :
    (bigSepL [0, 1, 2] fun i : Fin 3 => part c mm r (sh i) X : sProp 𝕄) ⊢ hole c mm r := by
  rw [bigSepL_cons', bigSepL_cons', show (bigSepL [(2 : Fin 3)] fun i => part c mm r (sh i) X) = part c mm r (sh 2) X from rfl]
  iintro ⟨H0, H1, H2⟩
  ihave H := (part_join c mm r (sh 1) (sh 2) fullShare.right X (PosShare.mem_left_op_right _)) $$ [H1 H2]
  · isplitl [H1] <;> iassumption
  ihave H := (part_join c mm r (sh 0) fullShare.right fullShare X (PosShare.mem_left_op_right _)) $$ [H0 H]
  · isplitl [H0] <;> iassumption
  iapply (hole_of c mm r X) $$ H

end Cert.Attn

end
-- ==== Proof.Whole.lean ====
module

public import proofs.«01_k».proof.Proof.Units

@[expose] public section

/-! # Running a device's text: the whole

The phases one after another. What a device holds is kept unit by unit, before and after. -/

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ) (c : Dev nD)

/-! ## Lists -/

theorem zip {M : Type} [URA M] {I : Type} (l : List I) (A B : I → sProp M) : iprop(bigSepL l A ∗ bigSepL l B) ⊢ bigSepL l fun i => iprop(A i ∗ B i) :=
  Entails.of_eq (bigSepL_sep l A B).symm

theorem bigSepL_emp {M : Type} [URA M] {I : Type} (l : List I) : bigSepL l (fun _ => iprop(emp)) = (iprop(emp) : sProp M) := by
  induction l with
  | nil => rfl
  | cons i l ih => rw [bigSepL_cons', ih]; exact equiv_iff.mp emp_sep

theorem bigSepL_comm {M : Type} [URA M] {I J : Type} (l : List I) (k : List J) (A : I → J → sProp M) :
    bigSepL l (fun i => bigSepL k fun j => A i j) = bigSepL k fun j => bigSepL l fun i => A i j := by
  induction l with
  | nil => exact (bigSepL_emp k).symm
  | cons i l ih => simp only [bigSepL_cons']; rw [ih, ← bigSepL_sep]

/-! ## Debts -/

def d2 : List (Fin 4) → List Tk
  | [] => []
  | u :: us => due2 u (d2 us) [0, 1, 2]
def d1 : List (Fin 4) → List Tk
  | [] => d2 units
  | u :: us => dues1 u ++ d1 us

theorem d2_lvl : ∀ us, ∀ x ∈ d2 us, 2 < lvl (clOf x)
  | [], x, h => absurd h List.not_mem_nil
  | u :: us, x, h => by
    rcases List.mem_cons.mp h with rfl | h
    · exact Nat.lt_succ_self 2
    rcases List.mem_cons.mp h with rfl | h
    · exact Nat.lt_succ_self 2
    rcases List.mem_cons.mp h with rfl | h
    · exact Nat.lt_succ_self 2
    exact d2_lvl us x h
theorem d1_lvl : ∀ us, ∀ x ∈ d1 us, 1 < lvl (clOf x)
  | [], x, h => Nat.lt_of_succ_lt (d2_lvl units x h)
  | u :: us, x, h => by
    rcases List.mem_cons.mp h with rfl | h
    · exact Nat.lt_succ_self 1
    rcases List.mem_cons.mp h with rfl | h
    · exact Nat.lt_succ_self 1
    exact d1_lvl us x h

theorem dues_eq : dues = duesB ++ d1 units := rfl

/-! ## Phases over the units -/

theorem unit1s {Q : PUnit.{1} → sProp 𝕄} (k : Pg F) : iprop(run m K c (d1 units) ∗ bigSepL units (u1A c))
    ⊢ iprop((run m K c (d2 units) ∗ bigSepL units (u1B m c) -∗ runs c k Q) -∗ runs c (each (unit1 c (qO m c)) units k) Q) :=
  runs_each c (Q := Q) (unit1 c (qO m c)) (fun us => run m K c (d1 us)) (u1A c) (u1B m c)
    (fun u us k => unit1_runs m K c (d1 us) (fun x h => Nat.lt_of_succ_lt (d1_lvl us x h)) u k) units k

theorem unit2s {Q : PUnit.{1} → sProp 𝕄} (k : Pg F) : iprop(run m K c (d2 units) ∗ bigSepL units (u2A m c))
    ⊢ iprop((run m K c [] ∗ bigSepL units (u2B m c) -∗ runs c k Q) -∗ runs c (each (unit2 c) units k) Q) :=
  runs_each c (Q := Q) (unit2 c) (fun us => run m K c (d2 us)) (u2A m c) (u2B m c)
    (fun u us k => unit2_runs m K c (d2 us) u (d2_lvl (u :: us)) k) units k

theorem recvs {Q : PUnit.{1} → sProp 𝕄} (k : Pg F) : iprop(run m K c [] ∗ bigSepL units fun u => bigSepL [0, 1, 2] (r2A c u))
    ⊢ iprop((run m K c [] ∗ (bigSepL units fun u => bigSepL [0, 1, 2] (r2B m c u)) -∗ runs c k Q) -∗ runs c (each (fun u => each (recv2 c u) [0, 1, 2]) units k) Q) :=
  runs_each c (Q := Q) (fun u => each (recv2 c u) [0, 1, 2]) (fun _ => run m K c []) _ _
    (fun u _ k => runs_each c (recv2 c u) (fun _ => run m K c []) (r2A c u) (r2B m c u) (fun i _ k => recv2_runs m K c u i k) [0, 1, 2] k) units k

theorem sent1s {Q : PUnit.{1} → sProp 𝕄} (k : Pg F) : iprop(run m K c [] ∗ bigSepL units (t1A c))
    ⊢ iprop((run m K c [] ∗ bigSepL units (t1B c) -∗ runs c k Q) -∗ runs c (each sent1 units k) Q) :=
  runs_each c (Q := Q) sent1 (fun _ => run m K c []) (t1A c) (t1B c) (fun u _ k => sent1_runs m K c u k) units k

theorem sent2s {Q : PUnit.{1} → sProp 𝕄} (k : Pg F) : iprop(run m K c [] ∗ bigSepL units fun u => bigSepL [0, 1, 2] (t2A c u))
    ⊢ iprop((run m K c [] ∗ (bigSepL units fun u => bigSepL [0, 1, 2] (t2B m c u)) -∗ runs c k Q) -∗ runs c (each (fun u => each (sent2 u) [0, 1, 2]) units k) Q) :=
  runs_each c (Q := Q) (fun u => each (sent2 u) [0, 1, 2]) (fun _ => run m K c []) _ _
    (fun u _ k => runs_each c (sent2 u) (fun _ => run m K c []) (t2A c u) (t2B m c u) (fun i _ k => sent2_runs m K c u i k) [0, 1, 2] k) units k

theorem starts {Q : PUnit.{1} → sProp 𝕄} (k : Pg F) : iprop(run m K c dues ∗ bigSepL units fun u => bigSepL (heads u) (ldA m c))
    ⊢ iprop((run m K c dues ∗ (bigSepL units fun u => bigSepL (heads u) fun x => owed c (Own.ld x)) -∗ runs c k Q) -∗ runs c (each (startLd c) allHeads k) Q) := by
  rw [← bigSepL_flatMap units heads (ldA m c), ← bigSepL_flatMap units heads (fun x => owed c (Own.ld x))]
  exact runs_each c (Q := Q) (startLd c) (fun _ => run m K c dues) (ldA m c) (fun x => owed c (Own.ld x))
    (fun x _ k => startLd_runs m K c dues x k) allHeads k

/-! ## What the neighbours lend -/

theorem lands : (bigSepL [0, 1, 2, 3] fun d : Fin 4 => land (F := F) (nb c d) d)
    ⊢ iprop((bigSepL units fun u => iprop(hole (nb c 0) mRO (rO u) ∗ hole (nb c 0) mRL (rL u)))
      ∗ bigSepL units fun u => bigSepL [0, 1, 2] fun i : Fin 3 => hole (nb c i.succ) mRF (rRF i u)) := by
  rw [bigSepL_comm units [0, 1, 2] fun u i => hole (nb c i.succ) mRF (rRF i u)]
  exact BIBase.Entails.rfl

/-! ## A unit before and after -/

/-- The first exchange's windows and duties; what is waited for. -/
def sU1 (u : Fin 4) : sProp 𝕄 :=
  iprop(hole c mO (rO u) ∗ hole c mL (rL u) ∗ hole c mSO (rO u) ∗ hole c mSL (rL u)
    ∗ tok c (.inr (Own.p1 u 0 0)) ∗ tok c (.inr (Own.p1 u 0 1)) ∗ tok c (.inr (Own.p1 u 1 0)) ∗ tok c (.inr (Own.p1 u 1 1)))
def sU2 (u : Fin 4) : sProp 𝕄 :=
  iprop((owed c (Own.p1 u 0 1) ∗ pos c (Own.p1 u 0 1)) ∗ (owed c (Own.p1 u 1 1) ∗ pos c (Own.p1 u 1 1)) ∗ hole c mOut (rOut c 0 u) ∗ hole c mSF (rSF u))
def sU3 (u : Fin 4) : sProp 𝕄 := bigSepL [0, 1, 2] fun i : Fin 3 => iprop(tok c (.inr (Own.ps u i)) ∗ tok c (.inr (Own.pr u i)))
def sU4 (u : Fin 4) : sProp 𝕄 := iprop(pos c (Own.p1 u 0 0) ∗ pos c (Own.p1 u 1 0))
def startU (u : Fin 4) : sProp 𝕄 :=
  iprop(bigSepL (heads u) (ldA m c) ∗ bigSepL (heads u) (fun x => pos c (Own.ld x)) ∗ sU1 c u ∗ sU2 c u ∗ sU3 c u ∗ sU4 c u
    ∗ bigSepL [0, 1, 2] (r2A c u) ∗ bigSepL [0, 1, 2] fun i => pos c (Own.ps u i))

def e1 (u : Fin 4) : sProp 𝕄 := iprop(bigSepL (heads u) (fun x => zero c (.inr (Own.ld x))) ∗ bigSepL (heads u) (srcH m c)
      ∗ hole c (mDst 0) (rKV u) ∗ hole c (mDst 1) (rKV u))
def e2 (u : Fin 4) : sProp 𝕄 := iprop((zero c (.inr (Own.p1 u 0 1)) ∗ zero c (.inr (Own.p1 u 1 1)))
      ∗ (hole c mO (rO u) ∗ hole c mL (rL u) ∗ hole c mRO (rO u) ∗ hole c mRL (rL u))
      ∗ part c mOut (rOut c 0 u) fullShare (fO m c u))
def endU (u : Fin 4) : sProp 𝕄 :=
  iprop(e1 m c u ∗ e2 m c u ∗ bigSepL [0, 1, 2] (r2B m c u) ∗ t1B c u ∗ bigSepL [0, 1, 2] (t2B m c u))

theorem toU1 (u : Fin 4) :
    iprop(((bigSepL (heads u) fun x => owed c (Own.ld x)) ∗ bigSepL (heads u) fun x => pos c (Own.ld x))
        ∗ sU1 c u ∗ (hole (nb c 0) mRO (rO u) ∗ hole (nb c 0) mRL (rL u)))
      ⊢ (u1A c u : sProp 𝕄) := by
  unfold u1A sU1 wtA
  rw [bigSepL_sep]
  iintro ⟨Hw, ⟨Ho, Hl, Hso, Hsl, t0, t1, t2, t3⟩, Hro, Hrl⟩
  isplitl [Hw]; · iexact Hw
  isplitl [Ho]; · iexact Ho
  isplitl [Hl]; · iexact Hl
  isplitl [Hso]; · iexact Hso
  isplitl [Hsl]; · iexact Hsl
  isplitl [Hro]; · iexact Hro
  isplitl [Hrl]; · iexact Hrl
  isplitl [t0]; · iexact t0
  isplitl [t1]; · iexact t1
  isplitl [t2] <;> iassumption

theorem toU2 (u : Fin 4) :
    iprop((part c mO (rO u) fullShare (pO m c u) ∗ part c mL (rL u) fullShare (pL m c u)) ∗ sU2 c u
        ∗ sU3 c u ∗ bigSepL [0, 1, 2] fun i : Fin 3 => hole (nb c i.succ) mRF (rRF i u))
      ⊢ (u2A m c u : sProp 𝕄) := by
  unfold u2A sU2 sU3
  rw [bigSepL_sep [0, 1, 2] (fun i : Fin 3 => hole (nb c i.succ) mRF (rRF i u))]
  iintro ⟨Hp, ⟨w0, w1, Hout, Hsf⟩, Ht, Hh⟩
  isplitl [w0]; · iexact w0
  isplitl [w1]; · iexact w1
  isplitl [Hp]; · iexact Hp
  isplitl [Hout]; · iexact Hout
  isplitl [Hsf]; · iexact Hsf
  isplitl [Hh] <;> iassumption

theorem toT1 (u : Fin 4) : iprop((owed c (Own.p1 u 0 0) ∗ owed c (Own.p1 u 1 0)) ∗ sU4 c u) ⊢ (t1A c u : sProp 𝕄) := by
  unfold sU4 t1A
  iintro ⟨⟨c0, c1⟩, p0, p1⟩
  isplitl [c0 p0]
  · isplitl [c0] <;> iassumption
  · isplitl [c1] <;> iassumption

theorem text_runs {Q : PUnit.{1} → sProp 𝕄} :
    iprop(run m K c dues ∗ (bigSepL [0, 1, 2, 3] (brA c) ∗ cred (tallyAt (kc c (.inl ())) () 4) ∗ atPos ER (kc c (.inl ())) 0 ∅ 0)
        ∗ part c mQ (rQ c) fullShare (fun i => xQ m c ((rQ c).emb i)) ∗ bigSepL units (startU m c))
      ⊢ iprop((run m K c [] ∗ zero c (.inl ()) ∗ part c mQ (rQ c) fullShare (fun i => xQ m c ((rQ c).emb i)) ∗ bigSepL units (endU m c) -∗ Q ⟨⟩)
        -∗ runs c (text c) Q) := by
  unfold text startU endU
  simp only [bigSepL_sep units]
  iintro ⟨HR, HB, HQ, Hld, Hlp, H1, H2, H3, H4, H5, H6⟩ Hk
  iapply (starts m K c _) $$ [HR Hld]
  · isplitl [HR] <;> iassumption
  iintro ⟨HR, Hlo⟩
  iapply (bars_runs m K c (d1 units) (d1_lvl units) _) $$ [HR HB]
  · isplitl [HR]; · iexact HR
    iexact HB
  iintro ⟨HR, Hz, Hl⟩
  ihave Hl' := (lands c) $$ Hl
  icases Hl' with ⟨Hl0, Hl1⟩
  iapply (part_load c fullShare (fun i => xQ m c ((rQ c).emb i))) $$ HQ
  iintro HQ
  ihave A1 := (show iprop(((bigSepL units fun u => bigSepL (heads u) fun x => owed c (Own.ld x)) ∗ (bigSepL units fun u => bigSepL (heads u) fun x => pos c (Own.ld x)))
        ∗ bigSepL units (sU1 c) ∗ (bigSepL units fun u => iprop(hole (nb c 0) mRO (rO u) ∗ hole (nb c 0) mRL (rL u)))) ⊢ (bigSepL units (u1A c) : sProp 𝕄) from by
      rw [← bigSepL_sep units, ← bigSepL_sep units, ← bigSepL_sep units]
      exact bigSepL_mono fun u _ => toU1 c u) $$ [Hlo Hlp H1 Hl0]
  · isplitl [Hlo Hlp]
    · isplitl [Hlo] <;> iassumption
    isplitl [H1] <;> iassumption
  iapply (unit1s m K c _) $$ [HR A1]
  · isplitl [HR] <;> iassumption
  iintro ⟨HR, B1⟩
  ihave B1' := (show bigSepL units (u1B m c) ⊢ iprop(bigSepL units (e1 m c)
      ∗ (bigSepL units fun u => iprop(part c mO (rO u) fullShare (pO m c u) ∗ part c mL (rL u) fullShare (pL m c u)))
      ∗ bigSepL units fun u => iprop(owed c (Own.p1 u 0 0) ∗ owed c (Own.p1 u 1 0))) from by
    rw [← bigSepL_sep units, ← bigSepL_sep units]; exact BIBase.Entails.rfl) $$ B1
  icases B1' with ⟨He, Hp, Ho⟩
  ihave A2 := (show iprop((bigSepL units fun u => iprop(part c mO (rO u) fullShare (pO m c u) ∗ part c mL (rL u) fullShare (pL m c u)))
        ∗ bigSepL units (sU2 c) ∗ bigSepL units (sU3 c) ∗ bigSepL units fun u => bigSepL [0, 1, 2] fun i : Fin 3 => hole (nb c i.succ) mRF (rRF i u))
        ⊢ (bigSepL units (u2A m c) : sProp 𝕄) from by
      rw [← bigSepL_sep units, ← bigSepL_sep units, ← bigSepL_sep units]
      exact bigSepL_mono fun u _ => toU2 m c u) $$ [Hp H2 H3 Hl1]
  · isplitl [Hp]; · iexact Hp
    isplitl [H2]; · iexact H2
    isplitl [H3] <;> iassumption
  iapply (unit2s m K c _) $$ [HR A2]
  · isplitl [HR] <;> iassumption
  iintro ⟨HR, B2⟩
  ihave B2' := (show bigSepL units (u2B m c) ⊢ iprop(bigSepL units (e2 m c) ∗ bigSepL units fun u => bigSepL [0, 1, 2] fun i : Fin 3 => owed c (Own.ps u i)) from by
    rw [← bigSepL_sep units]
    refine bigSepL_mono fun u _ => ?_
    unfold u2B e2
    iintro ⟨H1, H2, H3, H4⟩
    isplitr [H4]
    · isplitl [H1]; · iexact H1
      isplitl [H2] <;> iassumption
    iexact H4) $$ B2
  icases B2' with ⟨He2, Hps⟩
  iapply (recvs m K c _) $$ [HR H5]
  · isplitl [HR] <;> iassumption
  iintro ⟨HR, He3⟩
  ihave A4 := (show iprop((bigSepL units fun u => iprop(owed c (Own.p1 u 0 0) ∗ owed c (Own.p1 u 1 0))) ∗ bigSepL units (sU4 c)) ⊢ (bigSepL units (t1A c) : sProp 𝕄) from by
      rw [← bigSepL_sep units]
      exact bigSepL_mono fun u _ => toT1 c u) $$ [Ho H4]
  · isplitl [Ho] <;> iassumption
  iapply (sent1s m K c _) $$ [HR A4]
  · isplitl [HR] <;> iassumption
  iintro ⟨HR, He4⟩
  ihave A5 := (show iprop((bigSepL units fun u => bigSepL [0, 1, 2] fun i : Fin 3 => owed c (Own.ps u i)) ∗ bigSepL units fun u => bigSepL [0, 1, 2] fun i : Fin 3 => pos c (Own.ps u i))
      ⊢ (bigSepL units fun u => bigSepL [0, 1, 2] (t2A c u) : sProp 𝕄) from by
      rw [← bigSepL_sep units]
      exact bigSepL_mono fun u _ => zip _ _ _) $$ [Hps H6]
  · isplitl [Hps] <;> iassumption
  iapply (sent2s m K c _) $$ [HR A5]
  · isplitl [HR] <;> iassumption
  iintro ⟨HR, He5⟩
  iapply (show Q ⟨⟩ ⊢ runs c (.ret ⟨⟩ : Pg F) Q from le_wp_ret _ _ _ _ _)
  iapply Hk
  isplitl [HR]; · iexact HR
  isplitl [Hz]; · iexact Hz
  isplitl [HQ]; · iexact HQ
  isplitl [He]; · iexact He
  isplitl [He2]; · iexact He2
  isplitl [He3]; · iexact He3
  isplitl [He4] <;> iassumption

end Cert.Attn

end
-- ==== Proof.Hold.lean ====
module

public import proofs.«01_k».proof.Proof.Whole
public import proofs.«01_k».proof.Proof.Gen.KernelIdeal.Launch

@[expose] public section

/-! # What a device holds

Its buffers whole, its positions and its duties, regrouped unit by unit as the run uses them, and back. -/

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Indices by unit -/

section Units
variable {M : Type} [URA M]

theorem by_unit (Φ : Fin 4 → sProp M) : bigSep Finset.univ Φ = bigSepL units Φ := bigSep_univ_eq_bigSepL units (by decide) (by decide) Φ

theorem heads_units (Φ : Fin 2 × Fin 2 × Fin 16 → sProp M) : bigSep Finset.univ Φ = bigSepL units fun u => bigSepL (heads u) Φ := by
  rw [bigSep_univ_eq_bigSepL allHeads (by decide +kernel) (by decide +kernel)]
  exact bigSepL_flatMap units heads Φ

theorem slot_units (Φ : Fin 4 × Fin 3 → sProp M) : bigSep Finset.univ Φ = bigSepL units fun u => bigSepL [0, 1, 2] fun i => Φ (u, i) := by
  rw [bigSep_univ_prod, by_unit]
  exact congrArg _ (funext fun u => bigSep_univ_eq_bigSepL [0, 1, 2] (by decide) (by decide) _)

theorem first_units (Φ : Fin 4 × Fin 2 × Fin 2 → sProp M) :
    bigSep Finset.univ Φ = bigSepL units fun u => iprop((Φ (u, 0, 0) ∗ Φ (u, 0, 1)) ∗ Φ (u, 1, 0) ∗ Φ (u, 1, 1)) := by
  rw [bigSep_univ_prod, by_unit]
  exact congrArg _ (funext fun u => by rw [bigSep_univ_prod, bigSep_fin_two, bigSep_fin_two, bigSep_fin_two]; rfl)

theorem out_units (Φ : Fin 4 × Fin 4 → sProp M) :
    bigSep Finset.univ Φ = iprop((bigSepL units fun u => Φ (0, u)) ∗ bigSepL units fun u => bigSepL [0, 1, 2] fun i : Fin 3 => Φ (i.succ, u)) := by
  rw [bigSep_univ_prod, by_unit, bigSepL_comm units [0, 1, 2] fun u (i : Fin 3) => Φ (i.succ, u)]
  simp only [by_unit]
  rfl

theorem own_units (Φ : Own → sProp M) : bigSep Finset.univ Φ
    = iprop((bigSepL units fun u => bigSepL (heads u) fun x => Φ (Own.ld x))
      ∗ (bigSepL units fun u => iprop((Φ (Own.p1 u 0 0) ∗ Φ (Own.p1 u 0 1)) ∗ Φ (Own.p1 u 1 0) ∗ Φ (Own.p1 u 1 1)))
      ∗ (bigSepL units fun u => bigSepL [0, 1, 2] fun i => Φ (Own.ps u i)) ∗ bigSepL units fun u => bigSepL [0, 1, 2] fun i => Φ (Own.pr u i)) := by
  rw [bigSep_univ_sum, bigSep_univ_sum, bigSep_univ_sum, heads_units, first_units, slot_units, slot_units]
  rfl

theorem cross (A B C D : sProp M) : iprop((A ∗ B) ∗ C ∗ D) = iprop((A ∗ C) ∗ B ∗ D) := by
  refine eq_of ?_ ?_
  · iintro ⟨⟨H1, H2⟩, H3, H4⟩
    isplitl [H1 H3]
    · isplitl [H1] <;> iassumption
    · isplitl [H2] <;> iassumption
  · iintro ⟨⟨H1, H2⟩, H3, H4⟩
    isplitl [H1 H3]
    · isplitl [H1] <;> iassumption
    · isplitl [H2] <;> iassumption
end Units

theorem disj_kv : ∀ u u' : Fin 4, u ≠ u' → Disjoint (rKV u).set (rKV u').set := disjoint_of_sep (inb := inb_kv) (by decide)
theorem cover_kv : (Finset.univ : Finset (Fin 4)).biUnion (fun u => (rKV u).set) = Finset.univ :=
  cover_of_mem (inb := inb_kv) fun x => by
    obtain ⟨u, h0, h1, h2⟩ := unit_at (x 0 : Fin 2) (x 1 : Fin 16)
    refine ⟨u, fun a => ?_⟩
    fin_cases a
    · exact ⟨h0.le, by show (x 0 : Fin 2).val < (ub u).val + 1; omega⟩
    · exact ⟨h1, h2⟩
    · exact ⟨Nat.zero_le _, (x 2).isLt.trans_eq (Nat.zero_add _).symm⟩
    · exact ⟨Nat.zero_le _, (x 3).isLt.trans_eq (Nat.zero_add _).symm⟩

variable {F : FTy → Type} [FloatOps F]

local notation "𝕄" => MT nD τ sig Unit (Elt F) ℕ UU ℕ

variable (m : (ℓ : Loc nD τ sig) → Buf (Elt F) ℓ) (c : Dev nD)

/-! ## Buffers -/

/-- A buffer at some contents. -/
def any (b : Ref sig .tc) : sProp 𝕄 := iprop(∃ f : Buf (Elt F) ((c : Thread nD τ).loc b), ((c : Thread nD τ).loc b) ↦{fullShare} f)

/-- A buffer at `g` is disjoint rectangles of it and the rest. -/
theorem spread {T : Type} [Fintype T] [DecidableEq T] (b : Ref sig .tc) (r : T → Rect b.ty.shape) (hr : ∀ t a, (r t).stride a = 1)
    (hd : ∀ t t', t ≠ t' → Disjoint (r t).set (r t').set) (g : Buf (Elt F) ((c : Thread nD τ).loc b)) :
    (((c : Thread nD τ).loc b) ↦{fullShare} g : sProp 𝕄)
      = iprop((bigSep Finset.univ fun t => part c (Memref.whole b) (r t) fullShare (fun i => (Memref.whole b).view.read (Elt F) g ((r t).emb i)))
        ∗ ((c : Thread nD τ).loc b) ↦[Finset.univ \ Finset.univ.biUnion fun t => ((Memref.whole b).view.slice (r t)).set]{fullShare} g) := by
  have e1 : ∀ r' : Rect b.ty.shape, ((Memref.whole b).view.slice r').set = r'.set := fun r' => by
    rw [View.set_slice]; ext x; simp only [Finset.mem_map]; exact ⟨fun ⟨y, hy, e⟩ => e ▸ hy, fun h => ⟨x, h, rfl⟩⟩
  rw [bigSep_congr (fun t _ => part_read c (Memref.whole b) (r t) (hr t) fullShare g)]
  rw [← show ((Memref.whole b).view.loc (c : Thread nD τ) ↦[Finset.univ.biUnion fun t => ((Memref.whole b).view.slice (r t)).set]{fullShare} g : sProp 𝕄) = _ from
    pointsTo_biUnion Finset.univ _ (fun t _ t' _ h => by rw [e1, e1]; exact hd t t' h)]
  exact eq_of (pointsTo_split_subset (Finset.subset_univ _)).1 (pointsTo_split_subset (Finset.subset_univ _)).2

/-- Keys and values: all heads, and what of them the device does not read. -/
def rest (b : Ref sig .tc) (r : Fin 2 × Fin 16 → Rect b.ty.shape) : sProp 𝕄 :=
  ((c : Thread nD τ).loc b) ↦[Finset.univ \ Finset.univ.biUnion fun t => ((Memref.whole b).view.slice (r t)).set]{fullShare} m ((c : Thread nD τ).loc b)
def rests : sProp 𝕄 := iprop(rest m c main_arg1 (fun t => rSrc c t.1 t.2) ∗ rest m c main_arg2 (fun t => rSrc c t.1 t.2))
def args : sProp 𝕄 := iprop((((c : Thread nD τ).loc main_arg1) ↦{fullShare} m ((c : Thread nD τ).loc main_arg1)) ∗ ((c : Thread nD τ).loc main_arg2) ↦{fullShare} m ((c : Thread nD τ).loc main_arg2))

theorem args_eq : (args m c : sProp 𝕄) = iprop((bigSepL units fun u => bigSepL (heads u) (srcH m c)) ∗ rests m c) := by
  rw [← heads_units, bigSep_univ_prod, bigSep_fin_two]
  unfold args rests
  rw [spread c main_arg1 (fun t : Fin 2 × Fin 16 => rSrc c t.1 t.2) (fun _ _ => rfl) (disj_src c), spread c main_arg2 (fun t : Fin 2 × Fin 16 => rSrc c t.1 t.2) (fun _ _ => rfl) (disj_src c)]
  exact cross _ _ _ _

/-- The scratch buffers. -/
def scr : sProp 𝕄 :=
  iprop(any (F := F) c cc0_scratch0 ∗ any (F := F) c cc0_scratch1 ∗ any (F := F) c cc0_scratch2 ∗ any (F := F) c cc0_scratch3 ∗ any (F := F) c cc0_scratch4 ∗ any (F := F) c cc0_scratch5
    ∗ any (F := F) c cc0_scratch6 ∗ any (F := F) c cc0_scratch7 ∗ any (F := F) c cc0_scratch8 ∗ any (F := F) c cc0_scratch9)

theorem dst_holes : iprop(any (F := F) c cc0_scratch0 ∗ any (F := F) c cc0_scratch1)
    ⊢ bigSepL units fun u => bigSepL (heads u) fun x => hole c (mDst x.1) (rDst x.2.1 x.2.2) := by
  rw [← heads_units, bigSep_univ_prod, bigSep_fin_two]
  exact BI.sep_mono (holes_of_whole cc0_scratch0 c (fun t : Fin 2 × Fin 16 => rDst t.1 t.2) (fun _ _ => rfl) disj_dst cover_dst)
    (holes_of_whole cc0_scratch1 c (fun t : Fin 2 × Fin 16 => rDst t.1 t.2) (fun _ _ => rfl) disj_dst cover_dst)

theorem of_unit (b : Ref sig .tc) (r : Fin 4 → Rect b.ty.shape) (hr : ∀ t a, (r t).stride a = 1) (hd : ∀ t t', t ≠ t' → Disjoint (r t).set (r t').set)
    (hcov : (Finset.univ : Finset (Fin 4)).biUnion (fun t => (r t).set) = Finset.univ) :
    (any c b : sProp 𝕄) = bigSepL units fun u => hole c (Memref.whole b) (r u) := by
  rw [← by_unit]
  exact eq_of (holes_of_whole b c r hr hd hcov) (whole_of_holes b c r hr hd hcov)

theorem o_holes : (any c cc0_scratch2 : sProp 𝕄) = bigSepL units fun u => hole c mO (rO u) := of_unit c cc0_scratch2 rO (fun _ _ => rfl) disj_o cover_o
theorem l_holes : (any c cc0_scratch3 : sProp 𝕄) = bigSepL units fun u => hole c mL (rL u) := of_unit c cc0_scratch3 rL (fun _ _ => rfl) disj_l cover_l
theorem so_holes : (any c cc0_scratch4 : sProp 𝕄) = bigSepL units fun u => hole c mSO (rO u) := of_unit c cc0_scratch4 rO (fun _ _ => rfl) disj_o cover_o
theorem ro_holes : (any c cc0_scratch5 : sProp 𝕄) = bigSepL units fun u => hole c mRO (rO u) := of_unit c cc0_scratch5 rO (fun _ _ => rfl) disj_o cover_o
theorem sl_holes : (any c cc0_scratch6 : sProp 𝕄) = bigSepL units fun u => hole c mSL (rL u) := of_unit c cc0_scratch6 rL (fun _ _ => rfl) disj_l cover_l
theorem rl_holes : (any c cc0_scratch7 : sProp 𝕄) = bigSepL units fun u => hole c mRL (rL u) := of_unit c cc0_scratch7 rL (fun _ _ => rfl) disj_l cover_l
theorem sf_holes : (any c cc0_scratch8 : sProp 𝕄) = bigSepL units fun u => hole c mSF (rSF u) := of_unit c cc0_scratch8 rSF (fun _ _ => rfl) disj_sf cover_sf
theorem k_holes : (any c cc0_scratch0 : sProp 𝕄) = bigSepL units fun u => hole c (mDst 0) (rKV u) := of_unit c cc0_scratch0 rKV (fun _ _ => rfl) disj_kv cover_kv
theorem v_holes : (any c cc0_scratch1 : sProp 𝕄) = bigSepL units fun u => hole c (mDst 1) (rKV u) := of_unit c cc0_scratch1 rKV (fun _ _ => rfl) disj_kv cover_kv
theorem rf_holes : (any c cc0_scratch9 : sProp 𝕄) = bigSepL units fun u => bigSepL [0, 1, 2] fun i : Fin 3 => hole c mRF (rRF i u) := by
  rw [← slot_units fun t => hole c mRF (rRF t.2 t.1)]
  exact eq_of (holes_of_whole cc0_scratch9 c (fun t : Fin 4 × Fin 3 => rRF t.2 t.1) (fun _ _ => rfl) disj_rf cover_rf)
    (whole_of_holes cc0_scratch9 c (fun t : Fin 4 × Fin 3 => rRF t.2 t.1) (fun _ _ => rfl) disj_rf cover_rf)
theorem out_holes : (any c cc0_stg1_0 : sProp 𝕄)
    ⊢ iprop((bigSepL units fun u => hole c mOut (rOut c 0 u)) ∗ bigSepL units fun u => bigSepL [0, 1, 2] fun i : Fin 3 => hole c mOut (rOut c i.succ u)) := by
  rw [← out_units fun t => hole c mOut (rOut c t.1 t.2)]
  exact holes_of_whole cc0_stg1_0 c (fun t : Fin 4 × Fin 4 => rOut c t.1 t.2) (fun _ _ => rfl) (disj_out c) (cover_out c)
theorem out_parts : iprop((bigSepL units fun u => part c mOut (rOut c 0 u) fullShare (fO m c u))
      ∗ bigSepL units fun u => bigSepL [0, 1, 2] fun i : Fin 3 => part c mOut (rOut c i.succ u) fullShare (widen (rV m c u i)))
    ⊢ (((c : Thread nD τ).loc cc0_stg1_0) ↦{fullShare} (outV m c : cc0_stg1_0.ty.Contents (Elt F)) : sProp 𝕄) := by
  refine BIBase.Entails.trans ?_ (whole_of_parts cc0_stg1_0 c (fun t : Fin 4 × Fin 4 => rOut c t.1 t.2) (fun _ _ => rfl) (disj_out c) (cover_out c) (outX m c))
  rw [out_units]
  exact BIBase.Entails.rfl

/-- The staged queries: the device's own batches, and the rest. -/
def restQ : sProp 𝕄 := ((c : Thread nD τ).loc cc0_stg0_0) ↦[Finset.univ \ Finset.univ.biUnion fun _ : Unit => (mQ.view.slice (rQ c)).set]{fullShare} (xQ m c : cc0_stg0_0.ty.Contents (Elt F))
theorem q_parts : (((c : Thread nD τ).loc cc0_stg0_0) ↦{fullShare} (xQ m c : cc0_stg0_0.ty.Contents (Elt F)) : sProp 𝕄)
    = iprop(part c mQ (rQ c) fullShare (fun i => xQ m c ((rQ c).emb i)) ∗ restQ m c) := by
  rw [spread c cc0_stg0_0 (fun _ : Unit => rQ c) (fun _ _ => rfl) (fun _ _ h => absurd rfl h), bigSep_univ_eq_bigSepL [()] (by decide) (by decide)]
  rfl

/-! ## Positions, duties and what is waited for -/

def linear : sProp 𝕄 := iprop((bigSep Finset.univ fun k : Cl => atPos ER (kc c k) 0 ∅ 0) ∗ bigSep Finset.univ fun x : Tk => tok c x)
def crd : sProp 𝕄 := iprop(cred (tallyAt (kc c (.inl ())) () 4) ∗ (bigSepL units fun u => iprop(owed c (Own.p1 u 0 1) ∗ owed c (Own.p1 u 1 1)))
  ∗ bigSepL units fun u => bigSepL [0, 1, 2] fun i => owed c (Own.pr u i))

theorem pos_units : (bigSep Finset.univ fun k : Cl => atPos ER (kc c k) 0 ∅ 0 : sProp 𝕄)
    = iprop(atPos ER (kc c (.inl ())) 0 ∅ 0 ∗ bigSep Finset.univ (pos c)) := by
  rw [bigSep_univ_sum, bigSep_univ_eq_bigSepL [()] (by decide) (by decide)]; rfl
theorem tok_units : (bigSep Finset.univ fun x : Tk => tok c x : sProp 𝕄)
    = iprop((bigSepL [0, 1, 2, 3] fun i => tok c (.inl i)) ∗ bigSep Finset.univ fun o : Own => tok c (.inr o)) := by
  rw [bigSep_univ_sum, bigSep_univ_eq_bigSepL [0, 1, 2, 3] (by decide) (by decide)]; rfl
theorem zero_units : (bigSep Finset.univ fun k : Cl => zero c k : sProp 𝕄)
    = iprop(zero c (.inl ()) ∗ bigSep Finset.univ fun o : Own => zero c (.inr o)) := by
  rw [bigSep_univ_sum, bigSep_univ_eq_bigSepL [()] (by decide) (by decide)]; rfl

theorem lend : iprop((bigSepL units fun u => hole c mRO (rO u)) ∗ (bigSepL units fun u => hole c mRL (rL u))
      ∗ bigSepL units fun u => bigSepL [0, 1, 2] fun i : Fin 3 => hole c mRF (rRF i u))
    ⊢ bigSepL [0, 1, 2, 3] (land (F := F) c) := by
  rw [bigSepL_comm units [0, 1, 2] fun u (i : Fin 3) => hole c mRF (rRF i u)]
  have h : (bigSepL [0, 1, 2, 3] (land (F := F) c) : sProp 𝕄)
    = iprop((bigSepL units fun u => iprop(hole c mRO (rO u) ∗ hole c mRL (rL u))) ∗ bigSepL [0, 1, 2] fun i : Fin 3 => bigSepL units fun u => hole c mRF (rRF i u)) := rfl
  rw [h, bigSepL_sep units]
  iintro ⟨H1, H2, H3⟩
  isplitr [H3]
  · isplitl [H1] <;> iassumption
  iexact H3

/-- What the run starts from, from the buffers whole; -/
theorem entry : iprop(linear c ∗ crd c ∗ args m c ∗ scr c ∗ (((c : Thread nD τ).loc cc0_stg0_0) ↦{fullShare} (xQ m c : cc0_stg0_0.ty.Contents (Elt F))) ∗ any c cc0_stg1_0)
    ⊢ (iprop((bigSepL [0, 1, 2, 3] (brA c) ∗ cred (tallyAt (kc c (.inl ())) () 4) ∗ atPos ER (kc c (.inl ())) 0 ∅ 0)
        ∗ part c mQ (rQ c) fullShare (fun i => xQ m c ((rQ c).emb i)) ∗ bigSepL units (startU m c) ∗ rests m c ∗ restQ m c) : sProp 𝕄) := by
  unfold linear crd scr startU sU1 sU2 sU3 sU4 brA r2A ldA
  rw [pos_units, tok_units, own_units, own_units, args_eq, q_parts, o_holes, l_holes, so_holes, ro_holes, sl_holes, rl_holes, sf_holes, rf_holes]
  simp only [bigSepL_sep]
  iintro ⟨⟨⟨Hb, pl, ⟨⟨p00, p01⟩, p10, p11⟩, ps, pr⟩, tb, tl, ⟨⟨t00, t01⟩, t10, t11⟩, ts, tr⟩, ⟨cb, ⟨c01, c11⟩, cr⟩, ⟨Hs, Hrest⟩,
    ⟨Hk, Hv, Ho, Hl, Hso, Hro, Hsl, Hrl, Hsf, Hrf⟩, ⟨Hq, Hqr⟩, Hout⟩
  ihave Hd := (dst_holes c) $$ [Hk Hv]
  · isplitl [Hk] <;> iassumption
  ihave Hout' := (out_holes c) $$ Hout
  icases Hout' with ⟨Hout0, Hout1⟩
  ihave Hland := (lend c) $$ [Hro Hrl Hrf]
  · isplitl [Hro]; · iexact Hro
    isplitl [Hrl] <;> iassumption
  isplitl [tb Hland cb Hb]
  · isplitl [tb Hland]
    · isplitl [tb] <;> iassumption
    isplitl [cb] <;> iassumption
  isplitl [Hq]; · iexact Hq
  isplitr [Hrest Hqr]
  · isplitl [Hs Hd tl]
    · isplitl [Hs]; · iexact Hs
      isplitl [Hd] <;> iassumption
    isplitl [pl]; · iexact pl
    isplitl [Ho Hl Hso Hsl t00 t01 t10 t11]
    · isplitl [Ho]; · iexact Ho
      isplitl [Hl]; · iexact Hl
      isplitl [Hso]; · iexact Hso
      isplitl [Hsl]; · iexact Hsl
      isplitl [t00]; · iexact t00
      isplitl [t01]; · iexact t01
      isplitl [t10] <;> iassumption
    isplitl [c01 p01 c11 p11 Hout0 Hsf]
    · isplitl [c01 p01]
      · isplitl [c01] <;> iassumption
      isplitl [c11 p11]
      · isplitl [c11] <;> iassumption
      isplitl [Hout0] <;> iassumption
    isplitl [ts tr]
    · isplitl [ts] <;> iassumption
    isplitl [p00 p10]
    · isplitl [p00] <;> iassumption
    isplitl [cr pr Hout1]
    · isplitl [cr pr]
      · isplitl [cr] <;> iassumption
      iexact Hout1
    iexact ps
  isplitl [Hrest] <;> iassumption

theorem sf_back : (bigSepL units fun u => bigSepL [0, 1, 2] fun i : Fin 3 => part c mSF (rSF u) (sh i) (fS m c u) : sProp 𝕄) ⊢ any c cc0_scratch8 := by
  rw [sf_holes]; exact bigSepL_mono fun u _ => unshare c mSF (rSF u) (fS m c u)

/-- and what it ends in, whole again. -/
theorem leave : iprop(zero c (.inl ()) ∗ part c mQ (rQ c) fullShare (fun i => xQ m c ((rQ c).emb i)) ∗ bigSepL units (endU m c) ∗ rests m c ∗ restQ m c)
    ⊢ (iprop((bigSep Finset.univ fun k : Cl => zero c k) ∗ args m c ∗ scr c ∗ (((c : Thread nD τ).loc cc0_stg0_0) ↦{fullShare} (xQ m c : cc0_stg0_0.ty.Contents (Elt F)))
        ∗ ((c : Thread nD τ).loc cc0_stg1_0) ↦{fullShare} (outV m c : cc0_stg1_0.ty.Contents (Elt F))) : sProp 𝕄) := by
  unfold scr endU e1 e2 r2B t1B t2B
  rw [zero_units, own_units, args_eq, q_parts, k_holes, v_holes, o_holes, l_holes, so_holes, ro_holes, sl_holes, rl_holes, rf_holes]
  simp only [bigSepL_sep]
  iintro ⟨zb, Hq, ⟨⟨zl, Hs, Hk, Hv⟩, ⟨⟨z01, z11⟩, ⟨Ho, Hl, Hro, Hrl⟩, Hout⟩, ⟨zr, Hrf, Hout1⟩, ⟨⟨z00, z10⟩, Hso, Hsl⟩, zs, Hsf⟩, Hrest, Hqr⟩
  ihave Ho1 := (out_parts m c) $$ [Hout Hout1]
  · isplitl [Hout] <;> iassumption
  ihave Hsf' := (sf_back m c) $$ Hsf
  isplitl [zb zl z00 z01 z10 z11 zs zr]
  · isplitl [zb]; · iexact zb
    isplitl [zl]; · iexact zl
    isplitl [z00 z01 z10 z11]
    · isplitl [z00 z01]
      · isplitl [z00] <;> iassumption
      isplitl [z10] <;> iassumption
    isplitl [zs] <;> iassumption
  isplitl [Hs Hrest]
  · isplitl [Hs] <;> iassumption
  isplitr [Hq Hqr Ho1]
  · isplitl [Hk]; · iexact Hk
    isplitl [Hv]; · iexact Hv
    isplitl [Ho]; · iexact Ho
    isplitl [Hl]; · iexact Hl
    isplitl [Hso]; · iexact Hso
    isplitl [Hro]; · iexact Hro
    isplitl [Hsl]; · iexact Hsl
    isplitl [Hrl]; · iexact Hrl
    isplitl [Hsf']; · iexact Hsf'
    iexact Hrf
  isplitl [Hq Hqr]
  · isplitl [Hq] <;> iassumption
  iexact Ho1

end Cert.Attn

end
-- ==== Proof.Body.lean ====
module

public import proofs.«01_k».proof.Proof.Hold
public import proofs.«01_k».proof.Proof.Gen.KernelIdeal.Points
public import Idealize.ShloMosaic.Lib.Pipeline.Launch
public import Idealize.ShloMosaic.Lib.Pipeline.Kit
public import Idealize.ShloMosaic.Lib.Quiescent

@[expose] public section

/-! # A device's body

What a device holds before its one grid point and after it, and that the body takes it from the one to the other. -/

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-- What a device starts from beside its scratch buffers; before the point; after it. -/
def start : sProp 𝕄 := iprop((∃ K, recs m K ∗ linear c) ∗ crd c ∗ args m c)
def before : sProp 𝕄 := iprop(start m c ∗ scr c)
def after : sProp 𝕄 := iprop((bigSep Finset.univ fun k : Cl => zero c k) ∗ args m c ∗ scr c)

def dats (_ : Fin 1) (c : Dev nD) : Dat τ (Elt F) Unit ℕ UU ℕ cfg0 c where
  A w := m ((cfg0.win w).arr.view.loc (c : Thread nD τ))
  after w _ := match w with
    | ⟨0, _⟩ => xQ m c
    | ⟨1, _⟩ => outV m c
  Φ t := match t with
    | ⟨0, _⟩ => before m c
    | ⟨_ + 1, _⟩ => after m c
  q _ := fullShare
  owed t := match t with
    | ⟨0, _⟩ => owedL c dues
    | ⟨_ + 1, _⟩ => 0

/-- A buffer at contents said. -/
abbrev held (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_held (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

def pre : sProp 𝕄 :=
  iprop(before m c ∗ (dats m 0 c).owesAt () t0_0.castSucc
    ∗ (∃ d, held c cc0_stg0_0 ((dats m 0 c).before (0 : Fin 2) t0_0 d)) ∗ ∃ d, held c cc0_stg1_0 ((dats m 0 c).before (1 : Fin 2) t0_0 d))
def post : sProp 𝕄 :=
  iprop(after m c ∗ (dats m 0 c).owesAt () t0_0.succ ∗ held c cc0_stg0_0 (xQ m c) ∗ held c cc0_stg1_0 (outV m c))

theorem body_run : pre m c ⊢ runs c (bodyAt0 (F := F) t0_0) (fun _ => post m c) := by
  rw [body_eq]; unfold runs; rw [wp_deviceId]
  unfold pre before start
  iintro ⟨⟨⟨⟨%K, #HR, Hl⟩, Hc, Ha⟩, Hs⟩, Ho, ⟨%d0, %g0, %h0, Hx⟩, ⟨%d1, %g1, %h1, Hout⟩⟩
  have hx : g0 = xQ m c := by rw [h0]; unfold Dat.before; rw [if_pos (fetch0_0 t0_0)]; rfl
  subst hx
  unfold Dat.owesAt Pipeline.owesWithin
  icases Ho with ⟨%W, %hW, HO⟩
  rw [show (dats m 0 c).owed t0_0.castSucc = owedL c dues from rfl]
  ihave H := (entry m c) $$ [Hl Hc Ha Hs Hx Hout]
  · isplitl [Hl]; · iexact Hl
    isplitl [Hc]; · iexact Hc
    isplitl [Ha]; · iexact Ha
    isplitl [Hs]; · iexact Hs
    isplitl [Hx]; · iexact Hx
    unfold any
    iexists g1; iexact Hout
  icases H with ⟨Hb, Hq, Hu, Hr, Hqr⟩
  iapply (text_runs m K c) $$ [HO Hb Hq Hu]
  · isplitl [HO]
    · unfold run
      isplitr; · iexact HR
      iexists W; iexact HO
    isplitl [Hb]; · iexact Hb
    isplitl [Hq] <;> iassumption
  iintro ⟨Hrun, Hz, Hq, Hu⟩
  unfold run
  icases Hrun with ⟨-, %W', HO⟩
  ihave H := (leave m c) $$ [Hz Hq Hu Hr Hqr]
  · isplitl [Hz]; · iexact Hz
    isplitl [Hq]; · iexact Hq
    isplitl [Hu]; · iexact Hu
    isplitl [Hr] <;> iassumption
  icases H with ⟨Hz, Ha, Hs, Hx, Hout⟩
  unfold post after Dat.owesAt Pipeline.owesWithin
  rw [show (dats m 0 c).owed t0_0.succ = 0 from rfl]
  isplitl [Hz Ha Hs]
  · isplitl [Hz]; · iexact Hz
    isplitl [Ha] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem body_at : defs₀ (F := F) Proc.tc 0 (t0_0, cfg0.slots t0_0) = bodyAt0 (F := F) t0_0 := rfl
theorem at_start : (dats m 0 c).Φ t0_0.castSucc = before m c := rfl
theorem at_end : (dats m 0 c).Φ t0_0.succ = after m c := rfl
theorem after_0 : (dats m 0 c).after 0 t0_0 = xQ m c := rfl
theorem after_1 : (dats m 0 c).after 1 t0_0 = outV m c := rfl

theorem body_ok : BodyObligation (dats (F := F) m 0 c) (defs₀ (F := F)) 𝒱₀ () Set.univ := fun t => by
  rw [fin_N0 t]
  rw [bigSep_W0, bigSep_W0]
  simp only [owns_held]
  rw [at_start, at_end]
  have h := body_run m c
  unfold pre post runs at h
  rw [← body_at] at h
  refine (BIBase.Entails.trans ?_ h).trans ?_
  · refine BI.sep_mono (BI.Entails.refl _) (BI.sep_mono (BI.Entails.refl _) (BI.sep_mono ?_ ?_))
    · exact BI.Entails.refl _
    · exact BI.Entails.refl _
  · refine Entails.of_eq ?_
    congr 1

/-! ## The order of the waits -/

theorem stage_lv (s : DmaSem sig) (hs : ∀ o : Own, osem o ≠ .dma s) : lv ((c : Thread nD τ), .dma s) () ≤ 0 := by
  dsimp only [lv]
  cases h : dec (SemLoc.dma s) with
  | none => exact le_rfl
  | some k =>
    have e := dec_eq h
    rcases k with ⟨⟩ | o
    · cases e
    · exact absurd e.symm (hs o)

set_option maxRecDepth 8000 in
theorem dues_above : ∀ x ∈ dues, 0 < lvl (clOf x) := by decide +kernel

theorem stage_wait (s : DmaSem sig) (hs : ∀ o : Own, osem o ≠ .dma s) (l : List Tk) (hl : ∀ x ∈ l, 0 < lvl (clOf x)) :
    (levAts L lv : sProp 𝕄) ⊢ MayWait (c : Thread nD τ) (.dma s) () (owedL c l) := mayWait c (.dma s) 0 (stage_lv c s hs) l hl

theorem waits : (levAts L lv : sProp 𝕄) ⊢ Pipeline.cellsWaits cfgs (dats m) () 0 c :=
  Pipeline.cellsWaits_intro cfgs (dats m) () 0 c fun w s t => by
    have hs : ∀ (w : Fin 2) (s : Fin (win0 w).nbuf) (o : Own), osem o ≠ .dma ((win0 w).sem s) := by decide +kernel
    have h : ∃ l : List Tk, (∀ x ∈ l, 0 < lvl (clOf x)) ∧ (dats m 0 c).owed t = owedL c l := by
      rcases t with ⟨_ | _, ht⟩
      · exact ⟨dues, dues_above, rfl⟩
      · exact ⟨[], fun _ h => absurd h List.not_mem_nil, rfl⟩
    obtain ⟨l, hl, e⟩ := h
    rw [e]
    exact stage_wait c _ (hs w s) l hl

end Cert.Attn

end
-- ==== Proof.Deal.lean ====
module

public import proofs.«01_k».proof.Proof.Body

@[expose] public section

/-! # What the devices are dealt at the start

Every cell's invariant under one choice of names, every device its positions and the tokens of the duties it pays, and the
credit for what its neighbours owe it. -/

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Cells and tokens -/

theorem own_facts : Pipeline.OwnSemFacts cfg0.spec osem where
  isScoped := by decide +kernel
  inj := fun a b h => by have := @csem_injective (.inr a) (.inr b) h; exact Sum.inr.inj this
  disj := by decide +kernel

def cell : Dev nD × Cl ↪ GSem nD τ sig := ⟨fun x => kc x.1 x.2, fun a b h => Prod.ext (kc_inj.mp h).1 (kc_inj.mp h).2⟩
theorem tk_eq : ∀ x y : Tk, clOf x = clOf y → duty x = duty y → x = y := by
  rintro (k | o) (k' | o') h h'
  · exact congrArg _ h'
  · cases h
  · cases h
  · exact congrArg _ (Sum.inr.inj h)
def token : Dev nD × Tk ↪ GSem nD τ sig × ℕ × Fin 4 := ⟨fun x => (kc x.1 (clOf x.2), 0, duty x.2), fun a b h => by
  have h1 := kc_inj.mp (congrArg Prod.fst h)
  exact Prod.ext h1.1 (tk_eq _ _ h1.2 (congrArg (fun z : GSem nD τ sig × ℕ × Fin 4 => z.2.2) h))⟩

def u₀ : UU :=
  (initOf (Pipeline.cells cfgs cellOf_inj) (Pipeline.launchToks cfgs cellOf_inj), initOf (Finset.univ.map cell) (Finset.univ.map token))

/-- The tokens of a device's own cells. -/
def toks : sProp 𝕄 := bigSep Finset.univ fun x : Tk => dutyTok ER (kc c (clOf x)) 0 (duty x)
/-- Its share of the start; what comes of it. -/
def deal : sProp 𝕄 :=
  iprop((bigSep Finset.univ fun k : Cl => roundState ER (Rd m) (kc c k) 0)
    ∗ (bigSep Finset.univ fun k : Cl => iprop(atPos ER (kc c k) 0 ∅ 0 ∗ reached ER (kc c k) 0)) ∗ toks c)
def known (K : Dev nD × Cl → ℕ) : sProp 𝕄 :=
  iprop((bigSep Finset.univ fun ck : Dev nD × Cl => cellInv ER (Rd m) (K ck) (kc ck.1 ck.2)) ∗ bigSep Finset.univ fun ck : Dev nD × Cl => reached ER (kc ck.1 ck.2) 0)
instance known_persistent (K : Dev nD × Cl → ℕ) : BI.Persistent (known m K) := by unfold known; infer_instance
def dealt : sProp 𝕄 := iprop(∃ K, known m K ∗ linear c)

theorem fund_all : BI.own (ER (initOf (Finset.univ.map cell) (Finset.univ.map token))) ⊢ (|==> bigSep Finset.univ (deal m) : sProp 𝕄) := by
  have hX (Φ : GSem nD τ sig → sProp 𝕄) : bigSep (Finset.univ.map cell) Φ = bigSep Finset.univ fun c : Dev nD => bigSep Finset.univ fun k : Cl => Φ (kc c k) := by
    rw [bigSep_map, bigSep_univ_prod]; rfl
  have hT : bigSep (Finset.univ.map token) (fun x => (dutyTok ER x.1 x.2.1 x.2.2 : sProp 𝕄)) = bigSep Finset.univ fun c : Dev nD => toks c := by
    rw [bigSep_map, bigSep_univ_prod]; rfl
  iintro HX
  imod (Rounds.fund ER (Rd m) (Finset.univ.map cell) (Finset.univ.map token)) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold deal; simp only [bigSep_sep']
  isplitl [Hst']; · iexact Hst'
  isplitl [Hat' Hr']
  · isplitl [Hat'] <;> iassumption
  iexact Htok'

theorem unscoped_eq : (unscopedSems0 c : sProp 𝕄) = zero c (.inl ()) := by
  unfold unscopedSems0; rw [bigSep_eq_bigSepL_of_eq [SemLoc.reg sBar] (by decide +kernel) (by decide)]; rfl
theorem own_eq0 : (Pipeline.ownSems0 (Ix := Unit) (Name := ℕ) (U := UU) (Lvl := ℕ) (Val := Elt F) (τ := τ) osem c : sProp 𝕄)
    = bigSep Finset.univ fun o : Own => zero c (.inr o) := rfl

theorem sems_eq : iprop(Pipeline.ownSems0 (Ix := Unit) (Name := ℕ) (U := UU) (Lvl := ℕ) (Val := Elt F) (τ := τ) osem c ∗ unscopedSems0 c)
    ⊢ (bigSep Finset.univ fun k : Cl => zero c k : sProp 𝕄) := by
  rw [unscoped_eq, own_eq0, zero_units]
  iintro ⟨H, Hb⟩
  isplitl [Hb] <;> iassumption

theorem alloc_one : iprop(Pipeline.ownSems0 (Ix := Unit) (Name := ℕ) (U := UU) (Lvl := ℕ) (Val := Elt F) (τ := τ) osem c ∗ unscopedSems0 c ∗ deal m c)
    ⊢ |={Set.univ}=> iprop((bigSep Finset.univ fun k : Cl => iprop(∃ κ : ℕ, cellInv ER (Rd m) κ (kc c k)))
      ∗ (bigSep Finset.univ fun k : Cl => iprop(atPos ER (kc c k) 0 ∅ 0 ∗ reached ER (kc c k) 0)) ∗ toks c) := by
  unfold deal
  iintro ⟨Hos, Hus, Hst, Hat, Htok⟩
  ihave Hv := (sems_eq (F := F) c) $$ [Hos Hus]
  · isplitl [Hos] <;> iassumption
  imod (show iprop((bigSep Finset.univ fun k : Cl => zero c k) ∗ bigSep Finset.univ fun k : Cl => roundState ER (Rd m) (kc c k) 0)
      ⊢ (|={Set.univ}=> bigSep Finset.univ fun k : Cl => iprop(∃ κ : ℕ, cellInv ER (Rd m) κ (kc c k)) : sProp 𝕄) from by
        rw [← bigSep_sep']
        exact (bigSep_mono fun k _ => (Rounds.body_intro ER (Rd m) (kc c k)).trans inv_alloc).trans (bigSep_fupd _ _)) $$ [Hv Hst] with Hinv
  · isplitl [Hv] <;> iassumption
  imodintro
  isplitl [Hinv]; · iexact Hinv
  isplitl [Hat] <;> iassumption

/-- A neighbour for each duty: a bijection of the devices. -/
def viaE (x : Tk) : Dev nD ≃ Dev nD := ⟨via x, via x, via_via x, via_via x⟩

theorem toks_across : (bigSep Finset.univ fun c : Dev nD => (toks c : sProp 𝕄)) = bigSep Finset.univ fun c : Dev nD => bigSep Finset.univ fun x : Tk => tok c x := by
  unfold toks
  rw [bigSep_univ_comm, bigSep_univ_comm (fun (c : Dev nD) (x : Tk) => (tok c x : sProp 𝕄))]
  exact bigSep_congr fun x _ => bigSep_univ_equiv (viaE x) fun c => (dutyTok ER (kc c (clOf x)) 0 (duty x) : sProp 𝕄)

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (show _ ⊢ iprop((bigSep S fun _ => R) ∗ bigSep S Φ) from BI.sep_mono (BI.bigSep_of_persistent S R) (BI.Entails.refl _))
    (by rw [← bigSep_sep']; exact bigSep_mono h)

theorem share_out :
    (bigSep Finset.univ fun c : Dev nD => iprop((bigSep Finset.univ fun k : Cl => iprop(∃ κ : ℕ, cellInv ER (Rd m) κ (kc c k)))
        ∗ (bigSep Finset.univ fun k : Cl => iprop(atPos ER (kc c k) 0 ∅ 0 ∗ reached ER (kc c k) 0)) ∗ toks c) : sProp 𝕄)
      ⊢ bigSep Finset.univ (dealt m) := by
  rw [bigSep_sep', bigSep_sep', toks_across, ← bigSep_univ_prod (fun ck : Dev nD × Cl => iprop(∃ κ : ℕ, cellInv ER (Rd m) κ (kc ck.1 ck.2))),
    bigSep_congr (s := Finset.univ) (fun (c : Dev nD) _ => bigSep_sep' Finset.univ (fun k : Cl => (atPos ER (kc c k) 0 ∅ 0 : sProp 𝕄)) (fun k => reached ER (kc c k) 0)),
    bigSep_sep', ← bigSep_univ_prod (fun ck : Dev nD × Cl => (reached ER (kc ck.1 ck.2) 0 : sProp 𝕄))]
  iintro ⟨HI, ⟨Hat, #HR⟩, Htok⟩
  ihave HK := (BI.bigSep_exists_pi Finset.univ (fun (ck : Dev nD × Cl) (κ : ℕ) => (cellInv ER (Rd m) κ (kc ck.1 ck.2) : sProp 𝕄))) $$ HI
  icases HK with ⟨%K, #HI⟩
  iapply (with_known (R := known m K) (Φ := fun c => linear c) fun c _ => show iprop(known m K ∗ linear c) ⊢ dealt m c from by
    unfold dealt
    iintro ⟨H1, H2⟩
    iexists K
    isplitl [H1] <;> iassumption)
  isplitr
  · unfold known; isplitl; · iexact HI
    iexact HR
  · unfold linear
    rw [bigSep_sep']
    isplitl [Hat] <;> iassumption

theorem deal_all : (bigSep Finset.univ fun c => iprop(Pipeline.ownSems0 (Ix := Unit) (Name := ℕ) (U := UU) (Lvl := ℕ) (Val := Elt F) (τ := τ) osem c ∗ unscopedSems0 c ∗ deal m c) : sProp 𝕄)
    ⊢ |={Set.univ}=> bigSep Finset.univ (dealt m) :=
  ((bigSep_mono fun c _ => alloc_one m c).trans (bigSep_fupd _ _)).trans (BI.fupd_mono (share_out m))

/-! ## Credit -/

/-- How many of the debts `l` are to a cell of kind `k`. -/
def cnt (l : List Tk) (k : Cl) : ℕ := l.countP fun x => decide (clOf x = k)

theorem owed_sum (l : List Tk) (k : Cl) : (∑ d : Dev nD, owedL d l (kc c k) ()) = cnt l k * amt k := by
  induction l with
  | nil => simp [owedL, cnt]
  | cons x l ih =>
    have h : ∀ d : Dev nD, owedL d (x :: l) (kc c k) () = owedL d l (kc c k) () + if d = via x c then (if clOf x = k then amt k else 0) else 0 := fun d => by
      show owedL d l (kc c k) () + tallyAt (tgt d x) () (amt (clOf x)) (kc c k) () = _
      rw [tallyAt_apply]
      congr 1
      by_cases hd : d = via x c
      · subst hd
        rw [if_pos rfl]
        by_cases hk : clOf x = k
        · subst hk; rw [if_pos rfl, if_pos ⟨show _ = kc (via x (via x c)) (clOf x) by rw [via_via], rfl⟩]
        · rw [if_neg hk, if_neg fun h => hk (kc_inj.mp h.1).2.symm]
      · rw [if_neg hd, if_neg fun h => hd (by rw [(kc_inj.mp h.1).1, via_via])]
    rw [Finset.sum_congr rfl fun d _ => h d, Finset.sum_add_distrib, ih, Finset.sum_ite_eq' Finset.univ (via x c) fun _ => if clOf x = k then amt k else 0,
      if_pos (Finset.mem_univ _)]
    unfold cnt
    by_cases hk : clOf x = k
    · rw [if_pos hk, List.countP_cons_of_pos (by simpa using hk), Nat.add_mul, Nat.one_mul]
    · rw [if_neg hk, List.countP_cons_of_neg (by simpa using hk), Nat.add_zero]

def O₀ : Dev nD → CellTallies nD τ sig Unit := fun c => owedL c dues

theorem credit_at (k : Cl) : tallyOn (kc c k) (launchCredit (Pipeline.owing O₀) 0 (kc c k)) = (tallyAt (kc c k) () (cnt dues k * amt k) : CellTallies nD τ sig Unit) := by
  unfold tallyAt; refine congrArg _ (Finsupp.ext fun u => ?_); cases u
  rw [Pipeline.launchCredit_owing, Finsupp.single_eq_same]
  exact owed_sum c dues k

set_option maxRecDepth 8000 in
theorem cnt_bar : cnt dues (.inl ()) = 4 := by decide +kernel
set_option maxRecDepth 8000 in
theorem cnt_p1 : ∀ (u : Fin 4) (t : Fin 2), cnt dues (.inr (.p1 u t 1)) = 1 := by decide +kernel
set_option maxRecDepth 8000 in
theorem cnt_pr : ∀ (u : Fin 4) (i : Fin 3), cnt dues (.inr (.pr u i)) = 1 := by decide +kernel

theorem credits : (Pipeline.launchCred O₀ c : sProp 𝕄) ⊢ crd c := by
  have h1 : (Pipeline.launchCred O₀ c : sProp 𝕄) ⊢ bigSep Finset.univ fun k : Cl => cred (tallyAt (kc c k) () (cnt dues k * amt k)) := by
    unfold Pipeline.launchCred
    refine BIBase.Entails.trans (BI.bigSep_subset (Finset.subset_univ (Finset.univ.map ⟨csem, csem_injective⟩))) ?_
    rw [bigSep_map]
    exact bigSep_mono fun k _ => Entails.of_eq (congrArg cred (credit_at c k))
  refine h1.trans ?_
  rw [bigSep_univ_sum, bigSep_univ_eq_bigSepL [()] (by decide) (by decide), own_units]
  unfold crd owed
  rw [show bigSepL [()] (fun a => (cred (tallyAt (kc c (Sum.inl a)) () (cnt dues (Sum.inl a) * amt (Sum.inl a))) : sProp 𝕄))
    = cred (tallyAt (kc c (.inl ())) () 4) from by
      show cred (tallyAt (kc c (.inl ())) () (cnt dues (.inl ()) * amt (.inl ()))) = _
      rw [cnt_bar]; rfl]
  have e1 : ∀ u t, cnt dues (.inr (.p1 u t 1)) * amt (.inr (.p1 u t 1)) = amt (.inr (.p1 u t 1)) := fun u t => by rw [cnt_p1, Nat.one_mul]
  have e2 : ∀ u i, cnt dues (.inr (.pr u i)) * amt (.inr (.pr u i)) = amt (.inr (.pr u i)) := fun u i => by rw [cnt_pr, Nat.one_mul]
  simp only [e1, e2]
  show iprop(_ ∗ _) ⊢ _
  iintro ⟨H1, -, H2, -, H3⟩
  isplitl [H1]; · iexact H1
  isplitl [H2]
  · iapply (bigSepL_mono fun u _ => show _ ⊢ _ from ?_) $$ H2
    iintro ⟨⟨-, H1⟩, -, H2⟩
    isplitl [H1] <;> iassumption
  iexact H3

end Cert.Attn

end
-- ==== Proof.Final.lean ====
module

public import proofs.«01_k».proof.Proof.Deal
public import Idealize.ShloMosaic.Lib.Pipeline.CollectiveSegs

@[expose] public section

/-! # The run of all devices

Every device ends with its result at `outV`, its arguments as they were and every semaphore at zero. -/

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

theorem share_eq (w : Fin cfg0.W) : (dats m 0 c).share w = fullShare := by unfold Pipeline.Dat.share; split <;> rfl

theorem start_of : iprop(Pipeline.unscopedRestP Pipeline.Prefetch.none cfg0.spec c (fun b => m ((c : Thread nD τ).loc b)) ∗ levAts L lv
      ∗ Pipeline.launchCred O₀ c ∗ prngReg c (ρ c) ∗ dealt m c)
    ⊢ |={Set.univ}=> iprop(start m c ∗ emp) := by
  rw [Pipeline.unscopedRestP_none, unscopedRest0_eq]
  unfold dealt known
  iintro ⟨Ha, Hlev, Hcr, -, ⟨%K, ⟨HI, HR⟩, Hl⟩⟩
  ihave Hc := (credits (F := F) c) $$ Hcr
  imodintro
  unfold start
  isplitl
  · isplitl [HI HR Hlev Hl]
    · iexists K
      isplitl [HI HR Hlev]
      · unfold recs
        isplitl [HI]; · iexact HI
        isplitl [HR] <;> iassumption
      iexact Hl
    isplitl [Hc]; · iexact Hc
    unfold args; iexact Ha
  · iempintro

theorem enter : iprop(start m c ∗ Pipeline.prefHeld Pipeline.Prefetch.none c (fun _ => fullShare.right) (fun k => k.elim0) ∗ Pipeline.scopedRest cfg0.spec c)
    ⊢ (dats m 0 c).Φ 0 := by
  rw [show (dats m 0 c).Φ 0 = before m c from rfl, scopedRest0_eq]
  unfold before scr any
  iintro ⟨Hs, -, Hr⟩
  isplitl [Hs] <;> iassumption

/-- What a device keeps to the end. -/
def kept : sProp 𝕄 := iprop(unscopedSems0 c ∗ args m c)

theorem exit : (dats m 0 c).Φ (Fin.last cfg0.N) ⊢ iprop(kept m c ∗ Pipeline.ownSems0 osem c ∗ Pipeline.scopedRest cfg0.spec c) := by
  rw [show (dats m 0 c).Φ (Fin.last cfg0.N) = after m c from rfl, scopedRest0_eq]
  unfold after kept scr any
  rw [zero_units, own_eq0, unscoped_eq]
  iintro ⟨⟨Hb, Ho⟩, Ha, Hs⟩
  isplitl [Hb Ha]
  · isplitl [Hb] <;> iassumption
  isplitl [Ho] <;> iassumption

/-- The keys and values unchanged, and the barrier's count back at zero. -/
def Kept (c : Dev nD) (s : MemSt nD τ sig (Elt F)) : Prop :=
  (s.mem ((c : Thread nD τ).loc main_arg1) = m ((c : Thread nD τ).loc main_arg1) ∧ s.mem ((c : Thread nD τ).loc main_arg2) = m ((c : Thread nD τ).loc main_arg2))
    ∧ ∀ sm : SemLoc sig, sm.isScoped .tc = false → s.sem ((c.tc : Thread nD τ), sm) = 0

theorem kept_read (s : Phys nD τ sig (Elt F)) : iprop(kept m c ∗ emp ∗ SI s) ⊢ |={Set.univ}=> iprop(⌜Kept m c s.mem⌝ ∗ SI s) := by
  unfold kept args
  iintro ⟨⟨Hu, H1, H2⟩, -, HSI⟩
  ihave %h1 := (SI_pointsTo_agree (st := s) (ℓ := (c : Thread nD τ).loc main_arg1) (I := Finset.univ) (q := fullShare) (f := m ((c : Thread nD τ).loc main_arg1))) $$ [HSI H1]
  · isplitl [HSI] <;> iassumption
  ihave %h2 := (SI_pointsTo_agree (st := s) (ℓ := (c : Thread nD τ).loc main_arg2) (I := Finset.univ) (q := fullShare) (f := m ((c : Thread nD τ).loc main_arg2))) $$ [HSI H2]
  · isplitl [HSI] <;> iassumption
  imod (Pipeline.unscopedSems0_read (X := unscopedSems0 c) (c := c) fupd_intro s) $$ [Hu HSI] with ⟨%h3, HSI⟩
  · isplitl [Hu] <;> iassumption
  imodintro
  isplitr
  · ipureintro
    exact ⟨⟨funext fun i => h1 i (Finset.mem_univ _), funext fun i => h2 i (Finset.mem_univ _)⟩, h3⟩
  iexact HSI

def EndsAt (r : PUnit × MemSt nD τ sig (Elt F)) : Prop :=
  (∀ c : Dev nD, (∀ w : Fin cfg0.W, r.2.mem ((cfg0.win w).arr.view.loc (c : Thread nD τ)) = (dats m 0 c).arrAt w cfg0.N) ∧ Kept m c r.2) ∧ r.2.sem = fun _ => 0

set_option maxRecDepth 8000 in
theorem run_all : θ_run defs (onTc (τ := τ) (main (F := F))) ⟨m, fun _ => 0, ρ⟩ (EndsAt m) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := fun c => (body_ok m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := deal m) (G' := dealt m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := deal_all m)
    (hA := fun _ _ => rfl) (hpf := fun _ k => k.elim0)
    (X := start m) (Y := kept m) (Z := fun _ => iprop(emp))
    (hX := start_of m ρ) (hin := enter m) (hout := exit m)
    (QY := Kept m) (hY := kept_read m)
    (hQ := fun _ h hs => ⟨fun c => ⟨(h c).1, (h c).2.2⟩, sem_eq_zero hs fun c => (h c).2.2.2⟩)

theorem args_end {r : PUnit × MemSt nD τ sig (Elt F)} (h : EndsAt m r) (c : Dev nD) :
    r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) :=
  ⟨((h.1 c).1 (0 : Fin 2)).trans ((dats m 0 c).arrAt_in (0 : Fin 2) rfl _), (h.1 c).2.1.1, (h.1 c).2.1.2⟩

theorem out_end {r : PUnit × MemSt nD τ sig (Elt F)} (h : EndsAt m r) (c : Dev nD) : r.2.mem ((c : Thread nD τ).loc main_v1) = outV m c := by
  have ho : (win0_1.blk (0 : Fin 1)).view.read (Elt F) ((dats m 0 c).arrAt (1 : Fin 2) cfg0.N) = outV m c := by
    rw [show cfg0.N = ((0 : Fin 1) : Fin cfg0.N).val + 1 from rfl, (dats m 0 c).arrAt_succ (1 : Fin 2) (0 : Fin 1),
      show (cfg0.win (1 : Fin 2)).flush (0 : Fin 1) = true from flush0_1 _, if_pos rfl]
    exact View.read_write_univ _ _
  have hz : (fun a => (win0_1.index (0 : Fin 1)) a * main_v1.ty.shape.size a) = fun _ => 0 := funext fun a => by fin_cases a <;> decide
  rw [← ho]
  exact ((h.1 c).1 (1 : Fin 2)).trans (Memref.read_access_unit_zero (Elt F) main_v1 hz (fun a => by fin_cases a <;> decide) _).symm

theorem xQ_eq : xQ m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

end Cert.Attn

end
-- ==== Proof.Reading.lean ====
module

public import proofs.«01_k».proof.Proof.Gen.ReferenceIdeal.Run
public import Idealize.ShloMosaic.Lib.Pointwise

@[expose] public section

noncomputable section

namespace Cert.Attn

open Cert.ReferenceIdeal Cert.ReferenceIdeal.Gen
open Idealize.ShloMosaic Idealize.SL.Sem Idealize.ShloMosaic.TcCoe

/-- The scale, the f32 word nearest to 1/√128. -/
abbrev scl : EReal := Ideal.ofBits .f32 0x3DB504F3#32

variable (Q : FVec Ideal S8x8x16x128 .f32) (K V : FVec Ideal S8x2048x16x128 .f32)

/-- The reference's scaled scores. -/
def refS : FVec Ideal S8x16x8x2048 .f32 :=
  mulf (Host.dotGeneral dot_S8x8x16x128_S8x2048x16x128_S8x16x8x2048_3_3_1_1_02_02 none Q K) (broadcastInDim S8x16x8x2048 ![] bcast_S_S8x16x8x2048 (constant S_ .f32 0x3DB504F3#32))

theorem refS_at (b : Fin 8) (h : Fin 16) (q : Fin 8) (k : Fin 2048) :
    refS Q K (ix4 b h q k) = (∑ d : Fin 128, Q (ix4 b q h d) * K (ix4 b k h d)) * scl := by
  pointwise [refS]

/-- Its exponentials, less the greatest score. -/
def refE (S : FVec Ideal S8x16x8x2048 .f32) : FVec Ideal S8x16x8x2048 .f32 :=
  Host.exp (subf S (broadcastInDim S8x16x8x2048 ![0, 1, 2, 3] bcast_S8x16x8x1_S8x16x8x2048_0_1_2_3
    (broadcastInDim S8x16x8x1 ![0, 1, 2] bcast_S8x16x8_S8x16x8x1_0_1_2
      (Host.reduce FloatOps.maximumf S (constant S_ .f32 0xFF800000#32) reducesTo_S8x16x8x2048_S8x16x8_d3 h_S_))))

/-- A row of exponentials, less the greatest score. -/
def softExp (s : Fin 2048 → EReal) (k : Fin 2048) : EReal := Ideal.exp (s k - Finset.univ.fold max (Ideal.ofBits .f32 0xFF800000#32) s)

theorem refE_at (S : FVec Ideal S8x16x8x2048 .f32) (b : Fin 8) (h : Fin 16) (q : Fin 8) (k : Fin 2048) :
    refE S (ix4 b h q k) = softExp (fun k => S (ix4 b h q k)) k := by
  pointwise [refE, softExp]

/-- Its weights, and its result. -/
def refP (E : FVec Ideal S8x16x8x2048 .f32) : FVec Ideal S8x16x8x2048 .f32 :=
  Host.divf E (broadcastInDim S8x16x8x2048 ![0, 1, 2, 3] bcast_S8x16x8x1_S8x16x8x2048_0_1_2_3
    (broadcastInDim S8x16x8x1 ![0, 1, 2] bcast_S8x16x8_S8x16x8x1_0_1_2
      (Host.reduceAdd E (constant S_ .f32 0x00000000#32) reducesTo_S8x16x8x2048_S8x16x8_d3 h_S_)))

theorem refP_at (E : FVec Ideal S8x16x8x2048 .f32) (b : Fin 8) (h : Fin 16) (q : Fin 8) (k : Fin 2048) :
    refP E (ix4 b h q k) = Ideal.div (E (ix4 b h q k)) (∑ k : Fin 2048, E (ix4 b h q k)) := by
  pointwise [refP]

def refV : FVec Ideal S8x8x16x128 .f32 :=
  transpose S8x8x16x128 [0, 3, 1, 2] (Host.dotGeneral dot_S8x2048x16x128_S8x16x8x2048_S8x16x128x8_1_3_3_2_02_01 none V
    (refP (refE (refS Q K)))) transposes_S8x16x128x8_S8x8x16x128_0_3_1_2

/-- A row's scaled scores. -/
def scores (b q : Fin 8) (h : Fin 16) (k : Fin 2048) : EReal := (∑ d : Fin 128, Q (ix4 b q h d) * K (ix4 b k h d)) * scl

theorem refV_at (b q : Fin 8) (h : Fin 16) (d : Fin 128) :
    refV Q K V (ix4 b q h d) = ∑ k : Fin 2048, V (ix4 b k h d)
      * Ideal.div (softExp (scores Q K b q h) k) (∑ k : Fin 2048, softExp (scores Q K b q h) k) := by
  pointwise [refV]
  simp only [refP_at, refE_at, refS_at]
  rfl

/-- The reference's run ends with that result. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
          = refV (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  Cert.ReferenceIdeal.Value.run m ρ

end Cert.Attn

end
-- ==== Proof.Softmax.lean ====
module

public import proofs.«01_k».proof.Proof.Reading

@[expose] public section

/-! # Softmax of finite scores

Over finite scores a row's greatest score, subtracted before the exponentials, cancels; and the weighted sum may be
divided once at its end. The values that are weighted may be infinite. -/

noncomputable section

namespace Cert.Attn

open Idealize.ShloMosaic
open scoped BigOperators

variable {ι : Type} (t : Finset ι)

theorem coe_sum (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum times a number that is not negative. -/
theorem sum_mul_coe (f : ι → EReal) {x : ℝ} (hx : 0 ≤ x) : (∑ i ∈ t, f i) * (x : EReal) = ∑ i ∈ t, f i * (x : EReal) := by
  classical
  induction t using Finset.induction_on with
  | empty => simp
  | insert a t ha ih =>
    rw [Finset.sum_insert ha, Finset.sum_insert ha,
      EReal.right_distrib_of_nonneg_of_ne_top (EReal.coe_nonneg.mpr hx) (EReal.coe_ne_top x), ih]

/-- The greatest of finitely many numbers, of at least one, is a number. -/
theorem max_coe (f : ι → ℝ) : t.Nonempty → ∃ μ : ℝ, t.fold max (⊥ : EReal) (fun i => (f i : EReal)) = μ := by
  classical
  induction t using Finset.induction_on with
  | empty => intro h; exact absurd rfl h.ne_empty
  | insert a t ha ih =>
    intro _
    rw [Finset.fold_insert ha]
    rcases t.eq_empty_or_nonempty with rfl | h
    · exact ⟨f a, by simp⟩
    · obtain ⟨μ, hμ⟩ := ih h
      exact ⟨max (f a) μ, by rw [hμ]; exact (EReal.coe_strictMono.monotone.map_max).symm⟩

theorem word_bot : Ideal.ofBits .f32 0xFF800000#32 = (⊥ : EReal) := by simp [Ideal.ofBits, Ideal.ieee]
theorem word_top : Ideal.ofBits .f32 0x7F800000#32 = (⊤ : EReal) := by simp [Ideal.ofBits, Ideal.ieee]

/-- The scale is a number. -/
theorem scl_coe : ∃ γ : ℝ, scl = γ := by
  refine ⟨11863283 * (2 ^ 27)⁻¹, ?_⟩
  unfold scl
  simp [Ideal.ofBits, Ideal.ieee]

/-- A quotient by a positive number. -/
theorem div_coe (x : EReal) {y : ℝ} (hy : 0 < y) : Ideal.div x (y : EReal) = x * ((y⁻¹ : ℝ) : EReal) := by
  unfold Ideal.div
  rw [if_neg (by exact_mod_cast hy.ne'), EReal.coe_inv]

theorem soft_quotient (s : Fin 2048 → ℝ) (v : Fin 2048 → EReal) :
    ∑ k, v k * Ideal.div (softExp (fun k => (s k : EReal)) k) (∑ k, softExp (fun k => (s k : EReal)) k)
      = Ideal.div (∑ k, Ideal.exp (s k) * v k) (∑ k, Ideal.exp (s k)) := by
  obtain ⟨μ, hμ⟩ := max_coe Finset.univ s Finset.univ_nonempty
  have he : ∀ k, softExp (fun k => (s k : EReal)) k = ((Real.exp (s k) * Real.exp (-μ) : ℝ) : EReal) := fun k => by
    unfold softExp
    rw [word_bot, hμ, ← EReal.coe_sub, ← Real.exp_add, ← sub_eq_add_neg]
    rfl
  have hx : ∀ k, Ideal.exp (s k : EReal) = ((Real.exp (s k) : ℝ) : EReal) := fun _ => rfl
  simp only [he, hx, ← coe_sum]
  have hL : 0 < ∑ k, Real.exp (s k) := Finset.sum_pos (fun _ _ => Real.exp_pos _) Finset.univ_nonempty
  rw [← Finset.sum_mul, div_coe _ hL, sum_mul_coe _ _ (inv_nonneg.mpr hL.le)]
  refine Finset.sum_congr rfl fun k _ => ?_
  rw [div_coe _ (mul_pos hL (Real.exp_pos _)), ← EReal.coe_mul, mul_comm _ (v k), mul_assoc (v k), ← EReal.coe_mul]
  have h1 := hL.ne'
  have h2 := (Real.exp_pos (-μ)).ne'
  refine congrArg (fun x : ℝ => v k * (x : EReal)) ?_
  rw [mul_inv, mul_assoc, mul_left_comm (Real.exp (-μ)), mul_inv_cancel₀ h2, mul_one]

/-- Scores of finite queries and keys, scaled before the product or after it. -/
theorem score_coe (q k : Fin 128 → ℝ) : ∃ s : ℝ, (∑ d, (q d : EReal) * (k d : EReal)) * scl = s
    ∧ ∑ d, (q d : EReal) * scl * (k d : EReal) = s := by
  obtain ⟨γ, hγ⟩ := scl_coe
  refine ⟨(∑ d, q d * k d) * γ, ?_, ?_⟩
  · rw [hγ]; simp only [← EReal.coe_mul, ← coe_sum]
  · rw [hγ]; simp only [← EReal.coe_mul, ← coe_sum]
    congr 1
    rw [Finset.sum_mul]
    exact Finset.sum_congr rfl fun d _ => by ring

end Cert.Attn

end
-- ==== Proof.Values.lean ====
module

public import proofs.«01_k».proof.Proof.Final
public import proofs.«01_k».proof.Proof.Softmax

@[expose] public section

/-! # The kernel's result, element by element

What a device ends with at one element, over exact numbers: the sums of its own half of the sequence and of the half
across, divided once. -/

noncomputable section

namespace Cert.Attn

open Cert.KernelIdeal Cert.KernelIdeal.Gen
open Idealize.ShloMosaic
open Idealize.ShloMosaic.TcCoe
open scoped BigOperators

theorem row_lt : ∀ (d : Dev nD) (r u : Fin 4), row d r u < 8 := by decide +kernel
/-- A unit's batch, and its heads. -/
def bt (d : Dev nD) (r u : Fin 4) : Fin 8 := ⟨row d r u, row_lt d r u⟩
def hd (u : Fin 4) (t : Fin 8) : Fin 16 := ⟨uh u + t.val, by unfold uh; omega⟩

/-- The batch of a unit is the same across, and a neighbour's unit goes where its own batch is. -/
theorem bt_across : ∀ (d : Dev nD) (u : Fin 4), bt (nb d 0) 0 u = bt d 0 u := by decide +kernel
theorem bt_from : ∀ (d : Dev nD) (i : Fin 3) (u : Fin 4), bt (nb d i.succ) 0 u = bt d i.succ u := by decide +kernel

variable (m : (ℓ : Loc nD τ sig) → Buf (Elt Ideal) ℓ) (c : Dev nD)

theorem rKV_emb (u : Fin 4) (t : Fin 8) (k : Fin 1024) (d : Fin 128) :
    (rKV u).emb (ix4 0 t k d) = (rDst (ub u) (hd u t)).emb (ix4 0 0 k d) := by
  funext a
  refine Fin.ext ?_
  fin_cases a <;> simp [Rect.emb, Rect.unit, hd]

theorem rSrc_emb (u t) (k : Fin 1024) (d : Fin 128) :
    (rSrc c (ub u) (hd u t)).emb (ix4 0 k 0 d) = ix4 (bt c 0 u) k (hd u t) d := by
  funext a
  refine Fin.ext ?_
  fin_cases a <;> simp [Rect.emb, Rect.unit, hd, bt, row]

theorem kU_at (j : Fin 2) (u : Fin 4) (t : Fin 8) (k : Fin 1024) (d : Fin 128) :
    kU m c j u (ix4 0 t k d) = xS m c j (ix4 (bt c 0 u) k (hd u t) d) := by
  unfold kU kv
  rw [rKV_emb, glue_emb (fun t : Fin 2 × Fin 16 => rDst t.1 t.2) disj_dst _ (ub u, hd u t)]
  show moved _ _ _ = _
  unfold moved
  pointwise []
  unfold xH
  rw [rSrc_emb]

theorem off_q : ∀ (d : Dev nD) (u : Fin 4) (a : Fin 4), k0_off17 d a + (![(ub u).val, 0, 0, 0] : Fin 4 → ℕ) a = (![row d 0 u, 0, 0, 0] : Fin 4 → ℕ) a := by
  decide +kernel

theorem rQ_emb (u : Fin 4) (q : Fin 8) (h : Fin 16) (d : Fin 128) :
    (rQ c).emb (ix4 (ub u) q h d) = ix4 (bt c 0 u) q h d := by
  funext a
  refine Fin.ext ?_
  have ho := off_q c u a
  fin_cases a <;> simp [Rect.emb, Rect.unit, bt] at ho ⊢ <;> omega

/-- A unit's scaled query. -/
theorem qU_at (q : FVec Ideal S2x16x8x128 .f32) (u : Fin 4) (t q' : Fin 8) (d : Fin 128) :
    qU q u (ix3 t q' d) = q (ix4 (ub u) (hd u t) q' d) * scl := by
  pointwise [qU]
  rfl

/-- A device's score, with the query scaled; the sum of a half's exponentials, and their weighted sum. -/
def kScore (Q : FVec Ideal S8x8x16x128 .f32) (K : FVec Ideal S8x1024x16x128 .f32) (b q : Fin 8) (h : Fin 16) (k : Fin 1024) : EReal :=
  ∑ d : Fin 128, Q (ix4 b q h d) * scl * K (ix4 b k h d)
def kDen (Q : FVec Ideal S8x8x16x128 .f32) (K : FVec Ideal S8x1024x16x128 .f32) (b q : Fin 8) (h : Fin 16) : EReal :=
  ∑ k : Fin 1024, Ideal.exp (kScore Q K b q h k)
def kNum (Q : FVec Ideal S8x8x16x128 .f32) (K V : FVec Ideal S8x1024x16x128 .f32) (b q : Fin 8) (h : Fin 16) (d : Fin 128) : EReal :=
  ∑ k : Fin 1024, Ideal.exp (kScore Q K b q h k) * V (ix4 b k h d)

theorem qO_at (u : Fin 4) (t q' : Fin 8) (d : Fin 128) : qO m c (ix4 (ub u) (hd u t) q' d) = xQ m c (ix4 (bt c 0 u) q' (hd u t) d) := by
  pointwise [qO, qv, k0_pay1]
  rw [rQ_emb]

theorem pU_at (q : FVec Ideal S2x16x8x128 .f32) (u : Fin 4) (k : FVec Ideal S1x8x1024x128 .f32) (t q' : Fin 8) (k' : Fin 1024) :
    pU q u k (ix3 t q' k') = Ideal.exp (∑ d : Fin 128, q (ix4 (ub u) (hd u t) q' d) * scl * k (ix4 0 t k' d)) := by
  pointwise [pU]
  simp only [qU_at]

theorem lSt_at (q : FVec Ideal S2x16x8x128 .f32) (u : Fin 4) (k : FVec Ideal S1x8x1024x128 .f32) (t q' : Fin 8) :
    lSt q u k (ix3 0 t q') = ∑ k' : Fin 1024, pU q u k (ix3 t q' k') := by
  pointwise [lSt, lU]
  trace_state

theorem oSt_at (q : FVec Ideal S2x16x8x128 .f32) (u : Fin 4) (k v : FVec Ideal S1x8x1024x128 .f32) (t q' : Fin 8) (d : Fin 128) :
    oSt q u k v (ix4 0 t q' d) = ∑ k' : Fin 1024, pU q u k (ix3 t q' k') * v (ix4 0 t k' d) := by
  pointwise [oSt, oU]
  trace_state

theorem fin_at (o : FVec Ideal S1x8x8x128 .f32) (o' : FVec Ideal S1x8x8x128 .bf16) (l l' : FVec Ideal S1x8x8 .f32) (q t : Fin 8) (d : Fin 128) :
    finSt (F := Ideal) o o' l l' (ix4 0 q t d) = Ideal.div (o (ix4 0 t q d) + o' (ix4 0 t q d)) (l (ix3 0 t q) + l' (ix3 0 t q)) := by
  pointwise [finSt, fin, k0_pay32, k0_pay33]
  trace_state

theorem widen_at (x : FVec Ideal S1x1x8x8x128 .bf16) (q t : Fin 8) (d : Fin 128) : widen (F := Ideal) x (ix4 0 q t d) = x (ix5 0 0 q t d) := by
  pointwise [widen, k0_pay46]
  trace_state

theorem pL_at (u : Fin 4) (t q : Fin 8) :
    pL m c u (ix3 0 t q) = kDen (xQ m c) (xS m c 0) (bt c 0 u) q (hd u t) := by
  unfold pL kDen kScore
  rw [lSt_at]
  simp only [pU_at, qO_at, kU_at]

theorem pO_at (u : Fin 4) (t q : Fin 8) (d : Fin 128) :
    pO m c u (ix4 0 t q d) = kNum (xQ m c) (xS m c 0) (xS m c 1) (bt c 0 u) q (hd u t) d := by
  unfold pO kNum kScore
  rw [oSt_at]
  simp only [pU_at, qO_at, kU_at]

/-- The two halves' sums at one element. -/
def both (b q : Fin 8) (h : Fin 16) (d : Fin 128) : EReal :=
  Ideal.div (kNum (xQ m c) (xS m c 0) (xS m c 1) b q h d + kNum (xQ m (nb c 0)) (xS m (nb c 0) 0) (xS m (nb c 0) 1) b q h d)
    (kDen (xQ m c) (xS m c 0) b q h + kDen (xQ m (nb c 0)) (xS m (nb c 0) 0) b q h)

theorem pS_eq (u : Fin 4) : pS m c u = pO m c u := rfl
theorem fS_eq (u : Fin 4) : fS m c u = fO m c u := rfl

theorem fO_at (u : Fin 4) (q t : Fin 8) (d : Fin 128) : fO m c u (ix4 0 q t d) = both m c (bt c 0 u) q (hd u t) d := by
  unfold fO both
  rw [fin_at, pS_eq, pO_at, pO_at, pL_at, pL_at, bt_across]

theorem rV_at (u : Fin 4) (i : Fin 3) (q t : Fin 8) (d : Fin 128) :
    rV m c u i (ix5 0 0 q t d) = fO m (nb c i.succ) u (ix4 0 q t d) := by
  unfold rV moved
  pointwise []
  rw [fS_eq]

theorem outX_at (u : Fin 4) (r : Fin 4) (q t : Fin 8) (d : Fin 128) :
    ∃ e, outX m c (r, u) (ix4 0 q t d) = both m e (bt c r u) q (hd u t) d := by
  refine Fin.cases ⟨c, fO_at m c u q t d⟩ (fun i => ⟨nb c i.succ, ?_⟩) r
  show widen (F := Ideal) (rV m c u i) _ = _
  rw [widen_at, rV_at, fO_at, bt_from]

theorem rOut_emb (r u : Fin 4) (q t : Fin 8) (d : Fin 128) : (rOut c r u).emb (ix4 0 q t d) = ix4 (bt c r u) q (hd u t) d := by
  funext a
  refine Fin.ext ?_
  fin_cases a <;> simp [Rect.emb, Rect.unit, hd, bt]

/-- Every element of the result is some device's pair of sums. -/
theorem outV_at (b q : Fin 8) (h : Fin 16) (d : Fin 128) : ∃ e, outV m c (ix4 b q h d) = both m e b q h d := by
  obtain ⟨⟨r, u⟩, h0, h1, h2⟩ := out_at c b h
  obtain ⟨t, hh⟩ : ∃ t : Fin 8, hd u t = h := ⟨⟨h.val - uh u, Nat.sub_lt_left_of_lt_add h1 h2⟩, Fin.ext (Nat.add_sub_cancel' h1)⟩
  obtain ⟨e, he⟩ := outX_at m c u r q t d
  have hb : bt c r u = b := Fin.ext h0
  refine ⟨e, ?_⟩
  rw [hh, hb] at he
  rw [← he, ← hh, ← hb, ← rOut_emb]
  exact glue_emb (fun t : Fin 4 × Fin 4 => rOut c t.1 t.2) (disj_out c) (outX m c) (r, u) _

/-! ## Against the reference -/

/-- A place of one half of the sequence. -/
def at2 (x : Fin 2) (k : Fin 1024) : Fin 2048 := ⟨x.val * 1024 + k.val, by omega⟩

theorem sum_at2 (f : Fin 2048 → EReal) (x : Fin 2) : (∑ k, f (at2 x k)) + (∑ k, f (at2 x.rev k)) = ∑ k, f k := by
  have h : (∑ k, f (at2 0 k)) + (∑ k, f (at2 1 k)) = ∑ k, f k := by
    rw [Fin.sum_univ_two_halves 1024 1024 rfl f]
    refine congrArg₂ _ (Finset.sum_congr rfl fun k _ => congrArg f (Fin.ext ?_)) (Finset.sum_congr rfl fun k _ => congrArg f (Fin.ext ?_))
    · simp [at2]
    · simp [at2]
  fin_cases x
  · exact h
  · exact (add_comm _ _).trans h

variable (Q : FVec Ideal S8x8x16x128 .f32) (K V : FVec Ideal Cert.ReferenceIdeal.S8x2048x16x128 .f32) (half : Dev nD → Fin 2)

theorem out_ref (hx : ∀ e, half (nb e 0) = (half e).rev) (hQ : ∀ e, xQ m e = Q)
    (hK : ∀ e b k h d, xS m e 0 (ix4 b k h d) = K (ix4 b (at2 (half e) k) h d))
    (hV : ∀ e b k h d, xS m e 1 (ix4 b k h d) = V (ix4 b (at2 (half e) k) h d))
    (fQ : ∀ i, ∃ r : ℝ, Q i = (r : EReal)) (fK : ∀ i, ∃ r : ℝ, K i = (r : EReal)) : outV m c = refV Q K V := by
  funext j
  obtain ⟨b, q, h, d, rfl⟩ : ∃ b q h d, j = ix4 b q h d := ⟨_, _, _, _, eq_ix4 j⟩
  obtain ⟨e, he⟩ := outV_at m c b q h d
  rw [he, refV_at]
  choose Q' hQ' using fQ
  choose K' hK' using fK
  choose s hs hs' using fun k : Fin 2048 => score_coe (fun d => Q' (ix4 b q h d)) (fun d => K' (ix4 b k h d))
  have hsc : scores Q K b q h = fun k => (s k : EReal) := funext fun k => by
    unfold scores; simp only [hQ', hK']; exact hs k
  have hks : ∀ e k, kScore (xQ m e) (xS m e 0) b q h k = s (at2 (half e) k) := fun e k => by
    unfold kScore; simp only [hQ, hK, hQ', hK']; exact hs' _
  rw [hsc, soft_quotient]
  unfold both kNum kDen
  simp only [hks, hV, hx]
  rw [← sum_at2 (fun k => Ideal.exp (s k) * V (ix4 b k h d)) (half e), ← sum_at2 (fun k => Ideal.exp (s k)) (half e)]

end Cert.Attn

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Values
public import Idealize.ShloMosaic.Adequacy
public import Idealize.ShloMosaic.Init
public import Idealize.ShloMosaic.Lib.Quiescent

@[expose] public section

noncomputable section

namespace Cert.Proof

open Idealize.ShloMosaic Idealize.SL.Sem

/-- The two programs' kernels are the same text: nothing was rewritten. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext l x
  fin_cases l
  rfl

theorem defs_eq : @Cert.Kernel.defs Bits _ Cert.Kernel.Gen.facts = @Cert.KernelIdeal.defs Bits _ Cert.KernelIdeal.Gen.facts :=
  congrArg (Pipeline.defs (Cert.KernelIdeal.pcfgs (F := Bits))) bodies_eq

theorem frame_kernelIdeal : Cert.quiescent_KernelIdeal := fun m ρ _ =>
  (θ_run Cert.KernelIdeal.defs _ _).mono (fun _ h => ⟨Cert.Attn.args_end m h, h.2⟩) (Cert.Attn.run_all (F := Ideal) m ρ)

theorem frame_kernel : Cert.quiescent_Kernel := by
  intro m ρ _
  rw [defs_eq]
  exact (θ_run (Cert.KernelIdeal.defs (F := Bits)) _ _).mono
    (fun r (h : Cert.Attn.EndsAt (F := Bits) m r) => (⟨Cert.Attn.args_end m h, h.2⟩ : _ ∧ _)) (Cert.Attn.run_all (F := Bits) m ρ)

theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-! ## The values -/

/-- A number that tests as of magnitude below infinity is finite. -/
theorem finite_of_test (x : Ideal .f32) (h : BitVec.ofBool (decide (FloatOps.absf x < Ideal.ofBits .f32 0x7F800000#32)) = 1#1) :
    ∃ r : ℝ, x = (r : EReal) := by
  have hlt : max (x : EReal) (-x) < ⊤ := by
    rw [← Cert.Attn.word_top]
    by_contra hn
    have hn' : ¬ FloatOps.absf x < Ideal.ofBits .f32 0x7F800000#32 := hn
    simp [hn'] at h
  induction x using EReal.rec
  · simp at hlt
  · exact ⟨_, rfl⟩
  · simp at hlt

section Finite
variable (Q : FVec Ideal Cert.KernelIdeal.S8x8x16x128 .f32) (K V : FVec Ideal Cert.KernelIdeal.S8x1024x16x128 .f32)
  (h : Cert.Pre_finite_KernelIdeal.fn (F := Ideal) Q K V = fun _ => 1#1)
include h

theorem finite_q (i) : ∃ r : ℝ, Q i = (r : EReal) := by
  obtain ⟨b, q, t, d, rfl⟩ : ∃ b q t d, i = ix4 b q t d := ⟨_, _, _, _, eq_ix4 i⟩
  have hi := congrFun h (ix4 b (⟨q.val, by omega⟩ : Fin 1032) t d)
  pointwise [Cert.Pre_finite_KernelIdeal.fn] at hi
  exact finite_of_test _ hi

theorem finite_k (i) : ∃ r : ℝ, K i = (r : EReal) := by
  obtain ⟨b, k, t, d, rfl⟩ : ∃ b k t d, i = ix4 b k t d := ⟨_, _, _, _, eq_ix4 i⟩
  have hi := congrFun h (ix4 b (⟨8 + k.val, by omega⟩ : Fin 1032) t d)
  pointwise [Cert.Pre_finite_KernelIdeal.fn] at hi
  exact finite_of_test _ hi
end Finite

/-- The half of the sequence a device holds. -/
def half (c : Dev Cert.KernelIdeal.nD) : Fin 2 := (Layout.meshBlock [2, 2, 2] (![[], [0], [], []] : Fin 4 → List ℕ) c) 1

theorem half_across : ∀ e, half (Cert.Attn.nb e 0) = (half e).rev := by decide +kernel
theorem half_some : ∀ x, ∃ e, half e = x := by decide +kernel

theorem block_at (W : FVec Ideal Cert.ReferenceIdeal.S8x2048x16x128 .f32) (e : Dev Cert.KernelIdeal.nD) (b : Fin 8) (k : Fin 1024) (t : Fin 16) (d : Fin 128) :
    (Layout.blockN ⟨4, ![8, 1024, 16, 128]⟩ ⟨4, ![8, 2048, 16, 128]⟩ (Layout.meshBlock [2, 2, 2] ![[], [0], [], []] e) W) (ix4 b k t d)
      = W (ix4 b (Cert.Attn.at2 (half e) k) t d) := by
  rw [Layout.blockN_apply]
  refine congrArg W (funext fun a => Fin.ext ?_)
  rw [Layout.TilesN.idx_val]
  fin_cases a
  · exact Nat.zero_add _
  · rfl
  · exact Nat.zero_add _
  · exact Nat.zero_add _

theorem values : Cert.algebraic_KernelIdeal_ReferenceIdeal_pre_finite_KernelIdeal := by
  intro m g m' g' hp hm
  have fK : ∀ i, ∃ r : ℝ, m' (((0 : Dev Cert.ReferenceIdeal.nD).tc : Thread Cert.ReferenceIdeal.nD Cert.ReferenceIdeal.τ).loc Cert.ReferenceIdeal.main_arg1) i = (r : EReal) := by
    intro i
    obtain ⟨b, k, t, d, rfl⟩ : ∃ b k t d, i = ix4 b k t d := ⟨_, _, _, _, eq_ix4 i⟩
    obtain ⟨e, he⟩ := half_some ⟨k.val / 1024, by omega⟩
    have hk : k = Cert.Attn.at2 (half e) ⟨k.val % 1024, by omega⟩ := by rw [he]; exact Fin.ext (by simp [Cert.Attn.at2]; omega)
    rw [hk, ← block_at (m' (((0 : Dev Cert.ReferenceIdeal.nD).tc : Thread Cert.ReferenceIdeal.nD Cert.ReferenceIdeal.τ).loc Cert.ReferenceIdeal.main_arg1)), ← (hm e).2.1]
    exact finite_k _ _ _ (hp e) _
  have hv : ∀ c, Cert.Attn.outV (F := Ideal) m c = Cert.Attn.refV
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) := fun c => Cert.Attn.out_ref m c _ _ _ half half_across
    (fun e => (Cert.Attn.xQ_eq m e).trans (hm e).1)
    (fun e b k t d => (congrFun (hm e).2.1 _).trans (block_at _ e b k t d))
    (fun e b k t d => (congrFun (hm e).2.2 _).trans (block_at _ e b k t d))
    (fun i => (hm 0).1 ▸ finite_q _ _ _ (hp 0) i) fK
  refine ⟨_, (θ_run Cert.KernelIdeal.defs _ _).mono
      (fun _ h c => ⟨(Cert.Attn.out_end m h c).trans (hv c), Cert.Attn.args_end m h c⟩) (Cert.Attn.run_all (F := Ideal) m g),
    (θ_run Cert.ReferenceIdeal.defs _ _).mono (fun _ h => h 0) (Cert.Attn.ref_run m' g')⟩

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_kernelIdeal, fun m g _ => frame_kernelIdeal m g trivial,
  frame_reference, fun m g _ => frame_reference m g trivial, trivial, values⟩

end Cert.Proof

end
